-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_overlap_themselves [hPre_boxes_overlap_themselves : Cert.Pre_boxes_overlap_themselves.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_overlap_themselves.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_overlap_themselves [hPre_boxes_overlap_themselves : Cert.Pre_boxes_overlap_themselves.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_overlap_themselves.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_boxes_overlap_themselves [hKernelIdeal : Cert.KernelIdeal.Facts] [hPre_boxes_overlap_themselves : Cert.Pre_boxes_overlap_themselves.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_overlap_themselves m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_boxes_overlap_themselves [hReferenceIdeal : Cert.ReferenceIdeal.Facts] [hPre_boxes_overlap_themselves : Cert.Pre_boxes_overlap_themselves.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_overlap_themselves m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_boxes_overlap_themselves [hKernelIdeal : Cert.KernelIdeal.Facts] [hReferenceIdeal : Cert.ReferenceIdeal.Facts] [hPre_boxes_overlap_themselves : Cert.Pre_boxes_overlap_themselves.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_overlap_themselves m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_boxes_overlap_themselves : Cert.Pre_boxes_overlap_themselves.Facts),
    quiescent_Kernel (hKernel := hKernel)
    ∧ quiescent_KernelIdeal (hKernelIdeal := hKernelIdeal)
    ∧ quiescent_KernelIdeal_pre_boxes_overlap_themselves (hKernelIdeal := hKernelIdeal) (hPre_boxes_overlap_themselves := hPre_boxes_overlap_themselves)
    ∧ quiescent_ReferenceIdeal (hReferenceIdeal := hReferenceIdeal)
    ∧ quiescent_ReferenceIdeal_pre_boxes_overlap_themselves (hReferenceIdeal := hReferenceIdeal) (hPre_boxes_overlap_themselves := hPre_boxes_overlap_themselves)
    ∧ preserves_Kernel_KernelIdeal
    ∧ algebraic_KernelIdeal_ReferenceIdeal_pre_boxes_overlap_themselves (hKernelIdeal := hKernelIdeal) (hReferenceIdeal := hReferenceIdeal) (hPre_boxes_overlap_themselves := hPre_boxes_overlap_themselves)
-- ==== Pre_boxes_overlap_themselves.lean ====
abbrev S4x5000x33 : Shape := ⟨3, ![4, 5000, 33]⟩
abbrev S4x5000x4 : Shape := ⟨3, ![4, 5000, 4]⟩
abbrev S4x5000x1 : Shape := ⟨3, ![4, 5000, 1]⟩
abbrev S4x5000 : Shape := ⟨2, ![4, 5000]⟩
abbrev S_ : Shape := ⟨0, ![]⟩

class Facts : Prop where
  slices_S4x5000x33_S4x5000x4_0_0_21 : S4x5000x33.Slices ![0, 0, 21] S4x5000x4
  slices_S4x5000x33_S4x5000x4_0_0_25 : S4x5000x33.Slices ![0, 0, 25] S4x5000x4
  slices_S4x5000x33_S4x5000x4_0_0_29 : S4x5000x33.Slices ![0, 0, 29] S4x5000x4
  slices_S4x5000x4_S4x5000x1_0_0_0 : S4x5000x4.Slices ![0, 0, 0] S4x5000x1
  shapeCasts_S4x5000x1_S4x5000 : S4x5000x1.ShapeCasts S4x5000
  slices_S4x5000x4_S4x5000x1_0_0_2 : S4x5000x4.Slices ![0, 0, 2] S4x5000x1
  slices_S4x5000x4_S4x5000x1_0_0_1 : S4x5000x4.Slices ![0, 0, 1] S4x5000x1
  slices_S4x5000x4_S4x5000x1_0_0_3 : S4x5000x4.Slices ![0, 0, 3] S4x5000x1
  bcast_S_S4x5000 : S_.BroadcastsInDim S4x5000 (![] : Fin 0 → Fin S4x5000.rank)
  bcast_S4x5000_S4x5000x1_0_1 : S4x5000.BroadcastsInDim S4x5000x1 (![0, 1] : Fin 2 → Fin S4x5000x1.rank)
  concatenates_S4x5000x1_S4x5000x1_S4x5000x1_S4x5000x1_S4x5000x4_d2 : Shape.Concatenates [S4x5000x1, S4x5000x1, S4x5000x1, S4x5000x1] S4x5000x4 2
  bcast_S_S4x5000x4 : S_.BroadcastsInDim S4x5000x4 (![] : Fin 0 → Fin S4x5000x4.rank)
  bcast_S4x5000x1_S4x5000x4_0_1_2 : S4x5000x1.BroadcastsInDim S4x5000x4 (![0, 1, 2] : Fin 3 → Fin S4x5000x4.rank)

variable [Facts]

def fn_part6 {F : FTy → Type} [FloatOps F] (main_v67 : FVec F S4x5000x4 .f32) (main_v94 : FVec F S4x5000 .f32) (main_v128 : FVec F S4x5000 .f32) : IVec S4x5000x4 1 :=
  let main_v129 : FVec F S4x5000 .f32 := Host.divf main_v94 main_v128
  let main_cst_14 : FVec F S_ .f32 := constant S_ .f32 0x3EE66666#32
  let main_v130 : FVec F S4x5000 .f32 := broadcastInDim S4x5000 ![] bcast_S_S4x5000 main_cst_14
  let main_v131 : IVec S4x5000 1 := cmpf .oge main_v129 main_v130
  let main_v132 : IVec S4x5000x1 1 := broadcastInDim S4x5000x1 ![0, 1] bcast_S4x5000_S4x5000x1_0_1 main_v131
  let main_cst_15 : FVec F S_ .f32 := constant S_ .f32 0xCE6E6B28#32
  let main_v133 : FVec F S4x5000x4 .f32 := broadcastInDim S4x5000x4 ![] bcast_S_S4x5000x4 main_cst_15
  let main_v134 : IVec S4x5000x4 1 := cmpf .oge main_v67 main_v133
  let main_v135 : IVec S4x5000x4 1 := broadcastInDim S4x5000x4 ![0, 1, 2] bcast_S4x5000x1_S4x5000x4_0_1_2 main_v132
  let main_v136 : IVec S4x5000x4 1 := andi main_v135 main_v134
  main_v136

def fn_part5 {F : FTy → Type} [FloatOps F] (main_v67 : FVec F S4x5000x4 .f32) (main_v94 : FVec F S4x5000 .f32) (main_v101 : FVec F S4x5000 .f32) (main_v106 : FVec F S4x5000 .f32) (main_v107 : FVec F S4x5000 .f32) : IVec S4x5000x4 1 :=
  let main_v108 : FVec F S4x5000 .f32 := maximumf main_v106 main_v107
  let main_v109 : FVec F S4x5000 .f32 := mulf main_v101 main_v108
  let main_v110 : FVec F S4x5000x1 .f32 := (extractStridedSlice S4x5000x1 ![0, 0, 2] · slices_S4x5000x4_S4x5000x1_0_0_2) main_v67
  let main_v111 : FVec F S4x5000 .f32 := shapeCast S4x5000 main_v110 shapeCasts_S4x5000x1_S4x5000
  let main_v112 : FVec F S4x5000x1 .f32 := (extractStridedSlice S4x5000x1 ![0, 0, 0] · slices_S4x5000x4_S4x5000x1_0_0_0) main_v67
  let main_v113 : FVec F S4x5000 .f32 := shapeCast S4x5000 main_v112 shapeCasts_S4x5000x1_S4x5000
  let main_v114 : FVec F S4x5000 .f32 := subf main_v111 main_v113
  let main_cst_11 : FVec F S_ .f32 := constant S_ .f32 0x00000000#32
  let main_v115 : FVec F S4x5000 .f32 := broadcastInDim S4x5000 ![] bcast_S_S4x5000 main_cst_11
  let main_v116 : FVec F S4x5000 .f32 := maximumf main_v114 main_v115
  let main_v117 : FVec F S4x5000x1 .f32 := (extractStridedSlice S4x5000x1 ![0, 0, 3] · slices_S4x5000x4_S4x5000x1_0_0_3) main_v67
  let main_v118 : FVec F S4x5000 .f32 := shapeCast S4x5000 main_v117 shapeCasts_S4x5000x1_S4x5000
  let main_v119 : FVec F S4x5000x1 .f32 := (extractStridedSlice S4x5000x1 ![0, 0, 1] · slices_S4x5000x4_S4x5000x1_0_0_1) main_v67
  let main_v120 : FVec F S4x5000 .f32 := shapeCast S4x5000 main_v119 shapeCasts_S4x5000x1_S4x5000
  let main_v121 : FVec F S4x5000 .f32 := subf main_v118 main_v120
  let main_cst_12 : FVec F S_ .f32 := constant S_ .f32 0x00000000#32
  let main_v122 : FVec F S4x5000 .f32 := broadcastInDim S4x5000 ![] bcast_S_S4x5000 main_cst_12
  let main_v123 : FVec F S4x5000 .f32 := maximumf main_v121 main_v122
  let main_v124 : FVec F S4x5000 .f32 := mulf main_v116 main_v123
  let main_v125 : FVec F S4x5000 .f32 := addf main_v109 main_v124
  let main_v126 : FVec F S4x5000 .f32 := subf main_v125 main_v94
  let main_cst_13 : FVec F S_ .f32 := constant S_ .f32 0x322BCC77#32
  let main_v127 : FVec F S4x5000 .f32 := broadcastInDim S4x5000 ![] bcast_S_S4x5000 main_cst_13
  let main_v128 : FVec F S4x5000 .f32 := maximumf main_v126 main_v127
  fn_part6 (F := F) main_v67 main_v94 main_v128

def fn_part4 {F : FTy → Type} [FloatOps F] (main_v67 : FVec F S4x5000x4 .f32) (main_v72 : FVec F S4x5000 .f32) (main_v77 : FVec F S4x5000 .f32) (main_v82 : FVec F S4x5000 .f32) (main_v87 : FVec F S4x5000 .f32) : IVec S4x5000x4 1 :=
  let main_v88 : FVec F S4x5000 .f32 := subf main_v82 main_v72
  let main_cst_7 : FVec F S_ .f32 := constant S_ .f32 0x00000000#32
  let main_v89 : FVec F S4x5000 .f32 := broadcastInDim S4x5000 ![] bcast_S_S4x5000 main_cst_7
  let main_v90 : FVec F S4x5000 .f32 := maximumf main_v88 main_v89
  let main_v91 : FVec F S4x5000 .f32 := subf main_v87 main_v77
  let main_cst_8 : FVec F S_ .f32 := constant S_ .f32 0x00000000#32
  let main_v92 : FVec F S4x5000 .f32 := broadcastInDim S4x5000 ![] bcast_S_S4x5000 main_cst_8
  let main_v93 : FVec F S4x5000 .f32 := maximumf main_v91 main_v92
  let main_v94 : FVec F S4x5000 .f32 := mulf main_v90 main_v93
  let main_v95 : FVec F S4x5000x1 .f32 := (extractStridedSlice S4x5000x1 ![0, 0, 2] · slices_S4x5000x4_S4x5000x1_0_0_2) main_v67
  let main_v96 : FVec F S4x5000 .f32 := shapeCast S4x5000 main_v95 shapeCasts_S4x5000x1_S4x5000
  let main_v97 : FVec F S4x5000x1 .f32 := (extractStridedSlice S4x5000x1 ![0, 0, 0] · slices_S4x5000x4_S4x5000x1_0_0_0) main_v67
  let main_v98 : FVec F S4x5000 .f32 := shapeCast S4x5000 main_v97 shapeCasts_S4x5000x1_S4x5000
  let main_v99 : FVec F S4x5000 .f32 := subf main_v96 main_v98
  let main_cst_9 : FVec F S_ .f32 := constant S_ .f32 0x00000000#32
  let main_v100 : FVec F S4x5000 .f32 := broadcastInDim S4x5000 ![] bcast_S_S4x5000 main_cst_9
  let main_v101 : FVec F S4x5000 .f32 := maximumf main_v99 main_v100
  let main_v102 : FVec F S4x5000x1 .f32 := (extractStridedSlice S4x5000x1 ![0, 0, 3] · slices_S4x5000x4_S4x5000x1_0_0_3) main_v67
  let main_v103 : FVec F S4x5000 .f32 := shapeCast S4x5000 main_v102 shapeCasts_S4x5000x1_S4x5000
  let main_v104 : FVec F S4x5000x1 .f32 := (extractStridedSlice S4x5000x1 ![0, 0, 1] · slices_S4x5000x4_S4x5000x1_0_0_1) main_v67
  let main_v105 : FVec F S4x5000 .f32 := shapeCast S4x5000 main_v104 shapeCasts_S4x5000x1_S4x5000
  let main_v106 : FVec F S4x5000 .f32 := subf main_v103 main_v105
  let main_cst_10 : FVec F S_ .f32 := constant S_ .f32 0x00000000#32
  let main_v107 : FVec F S4x5000 .f32 := broadcastInDim S4x5000 ![] bcast_S_S4x5000 main_cst_10
  fn_part5 (F := F) main_v67 main_v94 main_v101 main_v106 main_v107

def fn_part3 {F : FTy → Type} [FloatOps F] (main_v52 : FVec F S4x5000 .f32) (main_v57 : FVec F S4x5000 .f32) (main_v62 : FVec F S4x5000 .f32) (main_v63 : FVec F S4x5000x1 .f32) : IVec S4x5000x4 1 :=
  let main_v64 : FVec F S4x5000x1 .f32 := broadcastInDim S4x5000x1 ![0, 1] bcast_S4x5000_S4x5000x1_0_1 main_v52
  let main_v65 : FVec F S4x5000x1 .f32 := broadcastInDim S4x5000x1 ![0, 1] bcast_S4x5000_S4x5000x1_0_1 main_v57
  let main_v66 : FVec F S4x5000x1 .f32 := broadcastInDim S4x5000x1 ![0, 1] bcast_S4x5000_S4x5000x1_0_1 main_v62
  let main_v67 : FVec F S4x5000x4 .f32 := concatenate S4x5000x4 2 [⟨S4x5000x1, main_v63⟩, ⟨S4x5000x1, main_v64⟩, ⟨S4x5000x1, main_v65⟩, ⟨S4x5000x1, main_v66⟩] concatenates_S4x5000x1_S4x5000x1_S4x5000x1_S4x5000x1_S4x5000x4_d2
  let main_v68 : FVec F S4x5000x1 .f32 := (extractStridedSlice S4x5000x1 ![0, 0, 0] · slices_S4x5000x4_S4x5000x1_0_0_0) main_v67
  let main_v69 : FVec F S4x5000 .f32 := shapeCast S4x5000 main_v68 shapeCasts_S4x5000x1_S4x5000
  let main_v70 : FVec F S4x5000x1 .f32 := (extractStridedSlice S4x5000x1 ![0, 0, 0] · slices_S4x5000x4_S4x5000x1_0_0_0) main_v67
  let main_v71 : FVec F S4x5000 .f32 := shapeCast S4x5000 main_v70 shapeCasts_S4x5000x1_S4x5000
  let main_v72 : FVec F S4x5000 .f32 := maximumf main_v69 main_v71
  let main_v73 : FVec F S4x5000x1 .f32 := (extractStridedSlice S4x5000x1 ![0, 0, 1] · slices_S4x5000x4_S4x5000x1_0_0_1) main_v67
  let main_v74 : FVec F S4x5000 .f32 := shapeCast S4x5000 main_v73 shapeCasts_S4x5000x1_S4x5000
  let main_v75 : FVec F S4x5000x1 .f32 := (extractStridedSlice S4x5000x1 ![0, 0, 1] · slices_S4x5000x4_S4x5000x1_0_0_1) main_v67
  let main_v76 : FVec F S4x5000 .f32 := shapeCast S4x5000 main_v75 shapeCasts_S4x5000x1_S4x5000
  let main_v77 : FVec F S4x5000 .f32 := maximumf main_v74 main_v76
  let main_v78 : FVec F S4x5000x1 .f32 := (extractStridedSlice S4x5000x1 ![0, 0, 2] · slices_S4x5000x4_S4x5000x1_0_0_2) main_v67
  let main_v79 : FVec F S4x5000 .f32 := shapeCast S4x5000 main_v78 shapeCasts_S4x5000x1_S4x5000
  let main_v80 : FVec F S4x5000x1 .f32 := (extractStridedSlice S4x5000x1 ![0, 0, 2] · slices_S4x5000x4_S4x5000x1_0_0_2) main_v67
  let main_v81 : FVec F S4x5000 .f32 := shapeCast S4x5000 main_v80 shapeCasts_S4x5000x1_S4x5000
  let main_v82 : FVec F S4x5000 .f32 := minimumf main_v79 main_v81
  let main_v83 : FVec F S4x5000x1 .f32 := (extractStridedSlice S4x5000x1 ![0, 0, 3] · slices_S4x5000x4_S4x5000x1_0_0_3) main_v67
  let main_v84 : FVec F S4x5000 .f32 := shapeCast S4x5000 main_v83 shapeCasts_S4x5000x1_S4x5000
  let main_v85 : FVec F S4x5000x1 .f32 := (extractStridedSlice S4x5000x1 ![0, 0, 3] · slices_S4x5000x4_S4x5000x1_0_0_3) main_v67
  let main_v86 : FVec F S4x5000 .f32 := shapeCast S4x5000 main_v85 shapeCasts_S4x5000x1_S4x5000
  let main_v87 : FVec F S4x5000 .f32 := minimumf main_v84 main_v86
  fn_part4 (F := F) main_v67 main_v72 main_v77 main_v82 main_v87

def fn_part2 {F : FTy → Type} [FloatOps F] (main_v13 : FVec F S4x5000 .f32) (main_v24 : FVec F S4x5000 .f32) (main_v33 : FVec F S4x5000 .f32) (main_v42 : FVec F S4x5000 .f32) (main_v45 : FVec F S4x5000 .f32) (main_cst_0 : FVec F S_ .f32) : IVec S4x5000x4 1 :=
  let main_v46 : FVec F S4x5000 .f32 := broadcastInDim S4x5000 ![] bcast_S_S4x5000 main_cst_0
  let main_v47 : FVec F S4x5000 .f32 := mulf main_v45 main_v46
  let main_cst_1 : FVec F S_ .f32 := constant S_ .f32 0x3F000000#32
  let main_v48 : FVec F S4x5000 .f32 := broadcastInDim S4x5000 ![] bcast_S_S4x5000 main_cst_1
  let main_v49 : FVec F S4x5000 .f32 := mulf main_v48 main_v42
  let main_v50 : FVec F S4x5000 .f32 := subf main_v24 main_v49
  let main_cst_2 : FVec F S_ .f32 := constant S_ .f32 0x43960000#32
  let main_v51 : FVec F S4x5000 .f32 := broadcastInDim S4x5000 ![] bcast_S_S4x5000 main_cst_2
  let main_v52 : FVec F S4x5000 .f32 := mulf main_v50 main_v51
  let main_cst_3 : FVec F S_ .f32 := constant S_ .f32 0x3F000000#32
  let main_v53 : FVec F S4x5000 .f32 := broadcastInDim S4x5000 ![] bcast_S_S4x5000 main_cst_3
  let main_v54 : FVec F S4x5000 .f32 := mulf main_v53 main_v33
  let main_v55 : FVec F S4x5000 .f32 := addf main_v13 main_v54
  let main_cst_4 : FVec F S_ .f32 := constant S_ .f32 0x43960000#32
  let main_v56 : FVec F S4x5000 .f32 := broadcastInDim S4x5000 ![] bcast_S_S4x5000 main_cst_4
  let main_v57 : FVec F S4x5000 .f32 := mulf main_v55 main_v56
  let main_cst_5 : FVec F S_ .f32 := constant S_ .f32 0x3F000000#32
  let main_v58 : FVec F S4x5000 .f32 := broadcastInDim S4x5000 ![] bcast_S_S4x5000 main_cst_5
  let main_v59 : FVec F S4x5000 .f32 := mulf main_v58 main_v42
  let main_v60 : FVec F S4x5000 .f32 := addf main_v24 main_v59
  let main_cst_6 : FVec F S_ .f32 := constant S_ .f32 0x43960000#32
  let main_v61 : FVec F S4x5000 .f32 := broadcastInDim S4x5000 ![] bcast_S_S4x5000 main_cst_6
  let main_v62 : FVec F S4x5000 .f32 := mulf main_v60 main_v61
  let main_v63 : FVec F S4x5000x1 .f32 := broadcastInDim S4x5000x1 ![0, 1] bcast_S4x5000_S4x5000x1_0_1 main_v47
  fn_part3 (F := F) main_v52 main_v57 main_v62 main_v63

def fn_part1 {F : FTy → Type} [FloatOps F] (main_v0 : FVec F S4x5000x4 .f32) (main_v1 : FVec F S4x5000x4 .f32) (main_v2 : FVec F S4x5000x4 .f32) (main_v13 : FVec F S4x5000 .f32) (main_v21 : FVec F S4x5000 .f32) (main_v23 : FVec F S4x5000 .f32) : IVec S4x5000x4 1 :=
  let main_v24 : FVec F S4x5000 .f32 := addf main_v21 main_v23
  let main_v25 : FVec F S4x5000x1 .f32 := (extractStridedSlice S4x5000x1 ![0, 0, 2] · slices_S4x5000x4_S4x5000x1_0_0_2) main_v1
  let main_v26 : FVec F S4x5000 .f32 := shapeCast S4x5000 main_v25 shapeCasts_S4x5000x1_S4x5000
  let main_v27 : FVec F S4x5000x1 .f32 := (extractStridedSlice S4x5000x1 ![0, 0, 2] · slices_S4x5000x4_S4x5000x1_0_0_2) main_v0
  let main_v28 : FVec F S4x5000 .f32 := shapeCast S4x5000 main_v27 shapeCasts_S4x5000x1_S4x5000
  let main_v29 : FVec F S4x5000x1 .f32 := (extractStridedSlice S4x5000x1 ![0, 0, 2] · slices_S4x5000x4_S4x5000x1_0_0_2) main_v2
  let main_v30 : FVec F S4x5000 .f32 := shapeCast S4x5000 main_v29 shapeCasts_S4x5000x1_S4x5000
  let main_v31 : FVec F S4x5000 .f32 := mulf main_v28 main_v30
  let main_v32 : FVec F S4x5000 .f32 := Host.exp main_v31
  let main_v33 : FVec F S4x5000 .f32 := mulf main_v26 main_v32
  let main_v34 : FVec F S4x5000x1 .f32 := (extractStridedSlice S4x5000x1 ![0, 0, 3] · slices_S4x5000x4_S4x5000x1_0_0_3) main_v1
  let main_v35 : FVec F S4x5000 .f32 := shapeCast S4x5000 main_v34 shapeCasts_S4x5000x1_S4x5000
  let main_v36 : FVec F S4x5000x1 .f32 := (extractStridedSlice S4x5000x1 ![0, 0, 3] · slices_S4x5000x4_S4x5000x1_0_0_3) main_v0
  let main_v37 : FVec F S4x5000 .f32 := shapeCast S4x5000 main_v36 shapeCasts_S4x5000x1_S4x5000
  let main_v38 : FVec F S4x5000x1 .f32 := (extractStridedSlice S4x5000x1 ![0, 0, 3] · slices_S4x5000x4_S4x5000x1_0_0_3) main_v2
  let main_v39 : FVec F S4x5000 .f32 := shapeCast S4x5000 main_v38 shapeCasts_S4x5000x1_S4x5000
  let main_v40 : FVec F S4x5000 .f32 := mulf main_v37 main_v39
  let main_v41 : FVec F S4x5000 .f32 := Host.exp main_v40
  let main_v42 : FVec F S4x5000 .f32 := mulf main_v35 main_v41
  let main_cst : FVec F S_ .f32 := constant S_ .f32 0x3F000000#32
  let main_v43 : FVec F S4x5000 .f32 := broadcastInDim S4x5000 ![] bcast_S_S4x5000 main_cst
  let main_v44 : FVec F S4x5000 .f32 := mulf main_v43 main_v33
  let main_v45 : FVec F S4x5000 .f32 := subf main_v13 main_v44
  let main_cst_0 : FVec F S_ .f32 := constant S_ .f32 0x43960000#32
  fn_part2 (F := F) main_v13 main_v24 main_v33 main_v42 main_v45 main_cst_0

def fn {F : FTy → Type} [FloatOps F] (main_arg0 : FVec F S4x5000x33 .f32) : IVec S4x5000x4 1 :=
  let main_v0 : FVec F S4x5000x4 .f32 := (extractStridedSlice S4x5000x4 ![0, 0, 21] · slices_S4x5000x33_S4x5000x4_0_0_21) main_arg0
  let main_v1 : FVec F S4x5000x4 .f32 := (extractStridedSlice S4x5000x4 ![0, 0, 25] · slices_S4x5000x33_S4x5000x4_0_0_25) main_arg0
  let main_v2 : FVec F S4x5000x4 .f32 := (extractStridedSlice S4x5000x4 ![0, 0, 29] · slices_S4x5000x33_S4x5000x4_0_0_29) main_arg0
  let main_v3 : FVec F S4x5000x1 .f32 := (extractStridedSlice S4x5000x1 ![0, 0, 0] · slices_S4x5000x4_S4x5000x1_0_0_0) main_v0
  let main_v4 : FVec F S4x5000 .f32 := shapeCast S4x5000 main_v3 shapeCasts_S4x5000x1_S4x5000
  let main_v5 : FVec F S4x5000x1 .f32 := (extractStridedSlice S4x5000x1 ![0, 0, 2] · slices_S4x5000x4_S4x5000x1_0_0_2) main_v1
  let main_v6 : FVec F S4x5000 .f32 := shapeCast S4x5000 main_v5 shapeCasts_S4x5000x1_S4x5000
  let main_v7 : FVec F S4x5000 .f32 := mulf main_v4 main_v6
  let main_v8 : FVec F S4x5000x1 .f32 := (extractStridedSlice S4x5000x1 ![0, 0, 0] · slices_S4x5000x4_S4x5000x1_0_0_0) main_v2
  let main_v9 : FVec F S4x5000 .f32 := shapeCast S4x5000 main_v8 shapeCasts_S4x5000x1_S4x5000
  let main_v10 : FVec F S4x5000 .f32 := mulf main_v7 main_v9
  let main_v11 : FVec F S4x5000x1 .f32 := (extractStridedSlice S4x5000x1 ![0, 0, 0] · slices_S4x5000x4_S4x5000x1_0_0_0) main_v1
  let main_v12 : FVec F S4x5000 .f32 := shapeCast S4x5000 main_v11 shapeCasts_S4x5000x1_S4x5000
  let main_v13 : FVec F S4x5000 .f32 := addf main_v10 main_v12
  let main_v14 : FVec F S4x5000x1 .f32 := (extractStridedSlice S4x5000x1 ![0, 0, 1] · slices_S4x5000x4_S4x5000x1_0_0_1) main_v0
  let main_v15 : FVec F S4x5000 .f32 := shapeCast S4x5000 main_v14 shapeCasts_S4x5000x1_S4x5000
  let main_v16 : FVec F S4x5000x1 .f32 := (extractStridedSlice S4x5000x1 ![0, 0, 3] · slices_S4x5000x4_S4x5000x1_0_0_3) main_v1
  let main_v17 : FVec F S4x5000 .f32 := shapeCast S4x5000 main_v16 shapeCasts_S4x5000x1_S4x5000
  let main_v18 : FVec F S4x5000 .f32 := mulf main_v15 main_v17
  let main_v19 : FVec F S4x5000x1 .f32 := (extractStridedSlice S4x5000x1 ![0, 0, 1] · slices_S4x5000x4_S4x5000x1_0_0_1) main_v2
  let main_v20 : FVec F S4x5000 .f32 := shapeCast S4x5000 main_v19 shapeCasts_S4x5000x1_S4x5000
  let main_v21 : FVec F S4x5000 .f32 := mulf main_v18 main_v20
  let main_v22 : FVec F S4x5000x1 .f32 := (extractStridedSlice S4x5000x1 ![0, 0, 1] · slices_S4x5000x4_S4x5000x1_0_0_1) main_v1
  let main_v23 : FVec F S4x5000 .f32 := shapeCast S4x5000 main_v22 shapeCasts_S4x5000x1_S4x5000
  fn_part1 (F := F) main_v0 main_v1 main_v2 main_v13 main_v21 main_v23
-- ==== Kernel.lean ====
abbrev S4x5000x33 : Shape := ⟨3, ![4, 5000, 33]⟩
abbrev S33x4x5000 : Shape := ⟨3, ![33, 4, 5000]⟩
abbrev S_ : Shape := ⟨0, ![]⟩
abbrev S33x4x5120 : Shape := ⟨3, ![33, 4, 5120]⟩
abbrev S20x4x5120 : Shape := ⟨3, ![20, 4, 5120]⟩
abbrev S4x20x5120 : Shape := ⟨3, ![4, 20, 5120]⟩
abbrev S80x5120 : Shape := ⟨2, ![80, 5120]⟩
abbrev S12x4x5120 : Shape := ⟨3, ![12, 4, 5120]⟩
abbrev S5x100x80 : Shape := ⟨3, ![5, 100, 80]⟩
abbrev S5x100x4x20 : Shape := ⟨4, ![5, 100, 4, 20]⟩
abbrev S5x4x20x100 : Shape := ⟨4, ![5, 4, 20, 100]⟩
abbrev S5x4x2000 : Shape := ⟨3, ![5, 4, 2000]⟩
abbrev S1x4x2000 : Shape := ⟨3, ![1, 4, 2000]⟩
abbrev S4x2000 : Shape := ⟨2, ![4, 2000]⟩
abbrev S4x2048 : Shape := ⟨2, ![4, 2048]⟩
abbrev S4x4x2000 : Shape := ⟨3, ![4, 4, 2000]⟩
abbrev S4x4x2048 : Shape := ⟨3, ![4, 4, 2048]⟩
abbrev S64x128 : Shape := ⟨2, ![64, 128]⟩
abbrev S4x64x128 : Shape := ⟨3, ![4, 64, 128]⟩
abbrev S6x64x128 : Shape := ⟨3, ![6, 64, 128]⟩
abbrev S6x4x100 : Shape := ⟨3, ![6, 4, 100]⟩
abbrev S4x100x6 : Shape := ⟨3, ![4, 100, 6]⟩
abbrev S1x4x5120 : Shape := ⟨3, ![1, 4, 5120]⟩
abbrev S4x5120 : Shape := ⟨2, ![4, 5120]⟩
abbrev S4x1x5120 : Shape := ⟨3, ![4, 1, 5120]⟩
abbrev S80x128 : Shape := ⟨2, ![80, 128]⟩
abbrev S80 : Shape := ⟨1, ![80]⟩
abbrev S80x1 : Shape := ⟨2, ![80, 1]⟩
abbrev S80x128x1 : Shape := ⟨3, ![80, 128, 1]⟩
abbrev S1x1x80 : Shape := ⟨3, ![1, 1, 80]⟩
abbrev S64x1 : Shape := ⟨2, ![64, 1]⟩
abbrev S1x64x128 : Shape := ⟨3, ![1, 64, 128]⟩
abbrev S64 : Shape := ⟨1, ![64]⟩
abbrev S4x16x1 : Shape := ⟨3, ![4, 16, 1]⟩
abbrev S4x1 : Shape := ⟨2, ![4, 1]⟩
abbrev S4x1x1 : Shape := ⟨3, ![4, 1, 1]⟩
abbrev S64x128x1 : Shape := ⟨3, ![64, 128, 1]⟩

abbrev nBuf : Space → Nat
  | .hbm => 27
  | .vmem => 12
  | .smem => 0
  | _ => 0

abbrev bufTy : (tb : Table) → Fin (tcTables nBuf tb) → BufTy
  | .hbm, ⟨0, _⟩ => ⟨S4x5000x33, .f32⟩
  | .hbm, ⟨1, _⟩ => ⟨S33x4x5000, .f32⟩
  | .hbm, ⟨2, _⟩ => ⟨S_, .i32⟩
  | .hbm, ⟨3, _⟩ => ⟨S_, .f32⟩
  | .hbm, ⟨4, _⟩ => ⟨S33x4x5120, .f32⟩
  | .hbm, ⟨5, _⟩ => ⟨S20x4x5120, .f32⟩
  | .hbm, ⟨6, _⟩ => ⟨S4x20x5120, .f32⟩
  | .hbm, ⟨7, _⟩ => ⟨S80x5120, .f32⟩
  | .hbm, ⟨8, _⟩ => ⟨S12x4x5120, .f32⟩
  | .hbm, ⟨9, _⟩ => ⟨S5x100x80, .f32⟩
  | .hbm, ⟨10, _⟩ => ⟨S5x100x4x20, .f32⟩
  | .hbm, ⟨11, _⟩ => ⟨S5x4x20x100, .f32⟩
  | .hbm, ⟨12, _⟩ => ⟨S5x4x2000, .f32⟩
  | .hbm, ⟨13, _⟩ => ⟨S1x4x2000, .f32⟩
  | .hbm, ⟨14, _⟩ => ⟨S4x2000, .f32⟩
  | .hbm, ⟨15, _⟩ => ⟨S_, .f32⟩
  | .hbm, ⟨16, _⟩ => ⟨S_, .f32⟩
  | .hbm, ⟨17, _⟩ => ⟨S4x2048, .f32⟩
  | .hbm, ⟨18, _⟩ => ⟨S4x4x2000, .f32⟩
  | .hbm, ⟨19, _⟩ => ⟨S_, .i32⟩
  | .hbm, ⟨20, _⟩ => ⟨S_, .f32⟩
  | .hbm, ⟨21, _⟩ => ⟨S4x4x2048, .f32⟩
  | .hbm, ⟨22, _⟩ => ⟨S64x128, .f32⟩
  | .hbm, ⟨23, _⟩ => ⟨S4x64x128, .f32⟩
  | .hbm, ⟨24, _⟩ => ⟨S6x64x128, .f32⟩
  | .hbm, ⟨25, _⟩ => ⟨S6x4x100, .f32⟩
  | .hbm, ⟨26, _⟩ => ⟨S4x100x6, .f32⟩
  | .local _ .vmem, ⟨0, _⟩ => ⟨S80x5120, .f32⟩
  | .local _ .vmem, ⟨1, _⟩ => ⟨S12x4x5120, .f32⟩
  | .local _ .vmem, ⟨2, _⟩ => ⟨S5x100x80, .f32⟩
  | .local _ .vmem, ⟨3, _⟩ => ⟨S80x5120, .f32⟩
  | .local _ .vmem, ⟨4, _⟩ => ⟨S80x5120, .f32⟩
  | .local _ .vmem, ⟨5, _⟩ => ⟨S80x5120, .f32⟩
  | .local _ .vmem, ⟨6, _⟩ => ⟨S80x5120, .f32⟩
  | .local _ .vmem, ⟨7, _⟩ => ⟨S80x5120, .f32⟩
  | .local _ .vmem, ⟨8, _⟩ => ⟨S80x5120, .f32⟩
  | .local _ .vmem, ⟨9, _⟩ => ⟨S64x128, .f32⟩
  | .local _ .vmem, ⟨10, _⟩ => ⟨S4x64x128, .f32⟩
  | .local _ .vmem, ⟨11, _⟩ => ⟨S6x64x128, .f32⟩
  | _, _ => ⟨S4x5000x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_c : Ref sig .tc := ⟨.hbm, 2, rfl⟩
abbrev main_call0_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_cst : Ref sig .tc := ⟨.hbm, 15, rfl⟩
abbrev main_call0_call1_v0 : Ref sig .tc := ⟨.hbm, 16, rfl⟩
abbrev main_call0_v12 : Ref sig .tc := ⟨.hbm, 17, rfl⟩
abbrev main_call0_v13 : Ref sig .tc := ⟨.hbm, 18, rfl⟩
abbrev main_call0_c_0 : Ref sig .tc := ⟨.hbm, 19, rfl⟩
abbrev main_call0_call2_v0 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_v18 : Ref sig .tc := ⟨.hbm, 25, rfl⟩
abbrev main_v0 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v618 : BitVec 32 := Scalar.addi c0_i32 c100_i32
  let c1_i32 : BitVec 32 := 1#32
  ⟨c0_i32, v618, c1_i32⟩
def k0_off1 (k0_t1 : Fin k0_t1_loop.trips) : Fin 3 → Nat :=
  let c0_868 : Index := 0#32
  let c0_i32 : BitVec 32 := 0#32
  let c1_i32 : BitVec 32 := 1#32
  let arg9 : BitVec 32 := Scf.iv c0_i32 c1_i32 k0_t1
  let v2179 : Index := Scalar.indexCast arg9
  let c0_869 : Index := 0#32
  ![0, v2179.toNat, 0]
def k0_off2 (k0_t1 : Fin k0_t1_loop.trips) : Fin 3 → Nat :=
  let c1_871 : Index := 1#32
  let c0_i32 : BitVec 32 := 0#32
  let c1_i32 : BitVec 32 := 1#32
  let arg9 : BitVec 32 := Scf.iv c0_i32 c1_i32 k0_t1
  let v2186 : Index := Scalar.indexCast arg9
  let c0_872 : Index := 0#32
  ![1, v2186.toNat, 0]
def k0_off3 (k0_t1 : Fin k0_t1_loop.trips) : Fin 3 → Nat :=
  let c2_874 : Index := 2#32
  let c0_i32 : BitVec 32 := 0#32
  let c1_i32 : BitVec 32 := 1#32
  let arg9 : BitVec 32 := Scf.iv c0_i32 c1_i32 k0_t1
  let v2193 : Index := Scalar.indexCast arg9
  let c0_875 : Index := 0#32
  ![2, v2193.toNat, 0]
def k0_off4 (k0_t1 : Fin k0_t1_loop.trips) : Fin 3 → Nat :=
  let c3_877 : Index := 3#32
  let c0_i32 : BitVec 32 := 0#32
  let c1_i32 : BitVec 32 := 1#32
  let arg9 : BitVec 32 := Scf.iv c0_i32 c1_i32 k0_t1
  let v2200 : Index := Scalar.indexCast arg9
  let c0_878 : Index := 0#32
  ![3, v2200.toNat, 0]
def k0_off5 (k0_t1 : Fin k0_t1_loop.trips) : Fin 3 → Nat :=
  let c4_880 : Index := 4#32
  let c0_i32 : BitVec 32 := 0#32
  let c1_i32 : BitVec 32 := 1#32
  let arg9 : BitVec 32 := Scf.iv c0_i32 c1_i32 k0_t1
  let v2207 : Index := Scalar.indexCast arg9
  let c0_881 : Index := 0#32
  ![4, v2207.toNat, 0]
abbrev stage0_0 : Fin 1 → Memref sig .tc .vmem S80x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x4x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x100x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

@[reducible] def k1_t1_loop : Scf.Loop 32 :=
  let c0_i32_13 : BitVec 32 := 0#32
  let c100_i32 : BitVec 32 := 100#32
  let v33 : BitVec 32 := Scalar.addi c0_i32_13 c100_i32
  let c1_i32_14 : BitVec 32 := 1#32
  ⟨c0_i32_13, v33, c1_i32_14⟩
abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S6x64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S4x5000x33 : Shape := ⟨3, ![4, 5000, 33]⟩
abbrev S4x5000x4 : Shape := ⟨3, ![4, 5000, 4]⟩
abbrev S4x5000x1 : Shape := ⟨3, ![4, 5000, 1]⟩
abbrev S4x5000 : Shape := ⟨2, ![4, 5000]⟩
abbrev S_ : Shape := ⟨0, ![]⟩
abbrev S4x5000x20 : Shape := ⟨3, ![4, 5000, 20]⟩
abbrev S4x20x5000 : Shape := ⟨3, ![4, 20, 5000]⟩
abbrev S100x4x20x5 : Shape := ⟨4, ![100, 4, 20, 5]⟩
abbrev S4x20 : Shape := ⟨2, ![4, 20]⟩
abbrev S4x20x1 : Shape := ⟨3, ![4, 20, 1]⟩
abbrev S4x20x4 : Shape := ⟨3, ![4, 20, 4]⟩
abbrev S4x20x1x4 : Shape := ⟨4, ![4, 20, 1, 4]⟩
abbrev S4x1x5000x4 : Shape := ⟨4, ![4, 1, 5000, 4]⟩
abbrev S4x20x1x1 : Shape := ⟨4, ![4, 20, 1, 1]⟩
abbrev S4x1x5000x1 : Shape := ⟨4, ![4, 1, 5000, 1]⟩
abbrev S4x1x5000 : Shape := ⟨3, ![4, 1, 5000]⟩
abbrev S4x20x5 : Shape := ⟨3, ![4, 20, 5]⟩
abbrev S1x4x20x5 : Shape := ⟨4, ![1, 4, 20, 5]⟩
abbrev S4x20x100x5 : Shape := ⟨4, ![4, 20, 100, 5]⟩
abbrev S20 : Shape := ⟨1, ![20]⟩
abbrev S1x20x1x1 : Shape := ⟨4, ![1, 20, 1, 1]⟩
abbrev S4x20x100x1 : Shape := ⟨4, ![4, 20, 100, 1]⟩
abbrev S4x20x100x6 : Shape := ⟨4, ![4, 20, 100, 6]⟩
abbrev S4x2000x6 : Shape := ⟨3, ![4, 2000, 6]⟩
abbrev S4x2000x1 : Shape := ⟨3, ![4, 2000, 1]⟩
abbrev S4x2000 : Shape := ⟨2, ![4, 2000]⟩
abbrev S4x100 : Shape := ⟨2, ![4, 100]⟩
abbrev S4x100x1 : Shape := ⟨3, ![4, 100, 1]⟩
abbrev S4x100x6 : Shape := ⟨3, ![4, 100, 6]⟩

abbrev nBuf : Space → Nat
  | .hbm => 230
  | .vmem => 0
  | .smem => 0
  | _ => 0

abbrev hbmTy0_0 (i : Nat) : BufTy := match i % 128 with
  | 0 => ⟨S4x5000x33, .f32⟩
  | 1 => ⟨S4x5000x4, .f32⟩
  | 2 => ⟨S4x5000x4, .f32⟩
  | 3 => ⟨S4x5000x4, .f32⟩
  | 4 => ⟨S4x5000x1, .f32⟩
  | 5 => ⟨S4x5000, .f32⟩
  | 6 => ⟨S4x5000x1, .f32⟩
  | 7 => ⟨S4x5000, .f32⟩
  | 8 => ⟨S4x5000, .f32⟩
  | 9 => ⟨S4x5000x1, .f32⟩
  | 10 => ⟨S4x5000, .f32⟩
  | 11 => ⟨S4x5000, .f32⟩
  | 12 => ⟨S4x5000x1, .f32⟩
  | 13 => ⟨S4x5000, .f32⟩
  | 14 => ⟨S4x5000, .f32⟩
  | 15 => ⟨S4x5000x1, .f32⟩
  | 16 => ⟨S4x5000, .f32⟩
  | 17 => ⟨S4x5000x1, .f32⟩
  | 18 => ⟨S4x5000, .f32⟩
  | 19 => ⟨S4x5000, .f32⟩
  | 20 => ⟨S4x5000x1, .f32⟩
  | 21 => ⟨S4x5000, .f32⟩
  | 22 => ⟨S4x5000, .f32⟩
  | 23 => ⟨S4x5000x1, .f32⟩
  | 24 => ⟨S4x5000, .f32⟩
  | 25 => ⟨S4x5000, .f32⟩
  | 26 => ⟨S4x5000x1, .f32⟩
  | 27 => ⟨S4x5000, .f32⟩
  | 28 => ⟨S4x5000x1, .f32⟩
  | 29 => ⟨S4x5000, .f32⟩
  | 30 => ⟨S4x5000x1, .f32⟩
  | 31 => ⟨S4x5000, .f32⟩
  | 32 => ⟨S4x5000, .f32⟩
  | 33 => ⟨S4x5000, .f32⟩
  | 34 => ⟨S4x5000, .f32⟩
  | 35 => ⟨S4x5000x1, .f32⟩
  | 36 => ⟨S4x5000, .f32⟩
  | 37 => ⟨S4x5000x1, .f32⟩
  | 38 => ⟨S4x5000, .f32⟩
  | 39 => ⟨S4x5000x1, .f32⟩
  | 40 => ⟨S4x5000, .f32⟩
  | 41 => ⟨S4x5000, .f32⟩
  | 42 => ⟨S4x5000, .f32⟩
  | 43 => ⟨S4x5000, .f32⟩
  | 44 => ⟨S_, .f32⟩
  | 45 => ⟨S4x5000, .f32⟩
  | 46 => ⟨S4x5000, .f32⟩
  | 47 => ⟨S4x5000, .f32⟩
  | 48 => ⟨S_, .f32⟩
  | 49 => ⟨S4x5000, .f32⟩
  | 50 => ⟨S4x5000, .f32⟩
  | 51 => ⟨S_, .f32⟩
  | 52 => ⟨S4x5000, .f32⟩
  | 53 => ⟨S4x5000, .f32⟩
  | 54 => ⟨S4x5000, .f32⟩
  | 55 => ⟨S_, .f32⟩
  | 56 => ⟨S4x5000, .f32⟩
  | 57 => ⟨S4x5000, .f32⟩
  | 58 => ⟨S_, .f32⟩
  | 59 => ⟨S4x5000, .f32⟩
  | 60 => ⟨S4x5000, .f32⟩
  | 61 => ⟨S4x5000, .f32⟩
  | 62 => ⟨S_, .f32⟩
  | 63 => ⟨S4x5000, .f32⟩
  | 64 => ⟨S4x5000, .f32⟩
  | 65 => ⟨S_, .f32⟩
  | 66 => ⟨S4x5000, .f32⟩
  | 67 => ⟨S4x5000, .f32⟩
  | 68 => ⟨S4x5000, .f32⟩
  | 69 => ⟨S_, .f32⟩
  | 70 => ⟨S4x5000, .f32⟩
  | 71 => ⟨S4x5000, .f32⟩
  | 72 => ⟨S4x5000x1, .f32⟩
  | 73 => ⟨S4x5000x1, .f32⟩
  | 74 => ⟨S4x5000x1, .f32⟩
  | 75 => ⟨S4x5000x1, .f32⟩
  | 76 => ⟨S4x5000x4, .f32⟩
  | 77 => ⟨S4x5000x20, .f32⟩
  | 78 => ⟨S4x20x5000, .f32⟩
  | 79 => ⟨S4x20x5000, .i32⟩
  | 80 => ⟨S_, .f32⟩
  | 81 => ⟨S4x20x5000, .f32⟩
  | 82 => ⟨S4x20x5000, .i1⟩
  | 83 => ⟨S_, .f32⟩
  | 84 => ⟨S4x20x5000, .f32⟩
  | 85 => ⟨S4x20x5000, .f32⟩
  | 86 => ⟨S_, .f32⟩
  | 87 => ⟨S100x4x20x5, .f32⟩
  | 88 => ⟨S_, .i32⟩
  | 89 => ⟨S4x20x5000, .i32⟩
  | 90 => ⟨S4x5000x4, .f32⟩
  | 91 => ⟨S_, .i32⟩
  | 92 => ⟨S4x20x5000, .f32⟩
  | 93 => ⟨S100x4x20x5, .f32⟩
  | 94 => ⟨S_, .i32⟩
  | 95 => ⟨S_, .i1⟩
  | 96 => ⟨S_, .f32⟩
  | 97 => ⟨S4x20, .f32⟩
  | 98 => ⟨S4x20x1, .f32⟩
  | 99 => ⟨S4x20x5000, .f32⟩
  | 100 => ⟨S4x20x5000, .i1⟩
  | 101 => ⟨S_, .i32⟩
  | 102 => ⟨S4x20x5000, .i32⟩
  | 103 => ⟨S4x20x5000, .i32⟩
  | 104 => ⟨S_, .i32⟩
  | 105 => ⟨S4x20, .i32⟩
  | 106 => ⟨S4x20x1, .i32⟩
  | 107 => ⟨S4x20x4, .f32⟩
  | 108 => ⟨S_, .f32⟩
  | 109 => ⟨S4x20x1, .f32⟩
  | 110 => ⟨S4x20x1, .i1⟩
  | 111 => ⟨S4x20x1x4, .f32⟩
  | 112 => ⟨S4x1x5000x4, .f32⟩
  | 113 => ⟨S4x20x1x1, .f32⟩
  | 114 => ⟨S4x20x1, .f32⟩
  | 115 => ⟨S4x1x5000x1, .f32⟩
  | 116 => ⟨S4x1x5000, .f32⟩
  | 117 => ⟨S4x20x5000, .f32⟩
  | 118 => ⟨S4x20x5000, .f32⟩
  | 119 => ⟨S4x20x5000, .f32⟩
  | 120 => ⟨S4x20x1x1, .f32⟩
  | 121 => ⟨S4x20x1, .f32⟩
  | 122 => ⟨S4x1x5000x1, .f32⟩
  | 123 => ⟨S4x1x5000, .f32⟩
  | 124 => ⟨S4x20x5000, .f32⟩
  | 125 => ⟨S4x20x5000, .f32⟩
  | 126 => ⟨S4x20x5000, .f32⟩
  | 127 => ⟨S4x20x1x1, .f32⟩
  | _ => ⟨S4x5000x33, .f32⟩

abbrev hbmTy0_1 (i : Nat) : BufTy := match i % 128 with
  | 0 => ⟨S4x20x1, .f32⟩
  | 1 => ⟨S4x1x5000x1, .f32⟩
  | 2 => ⟨S4x1x5000, .f32⟩
  | 3 => ⟨S4x20x5000, .f32⟩
  | 4 => ⟨S4x20x5000, .f32⟩
  | 5 => ⟨S4x20x5000, .f32⟩
  | 6 => ⟨S4x20x1x1, .f32⟩
  | 7 => ⟨S4x20x1, .f32⟩
  | 8 => ⟨S4x1x5000x1, .f32⟩
  | 9 => ⟨S4x1x5000, .f32⟩
  | 10 => ⟨S4x20x5000, .f32⟩
  | 11 => ⟨S4x20x5000, .f32⟩
  | 12 => ⟨S4x20x5000, .f32⟩
  | 13 => ⟨S4x20x5000, .f32⟩
  | 14 => ⟨S_, .f32⟩
  | 15 => ⟨S4x20x5000, .f32⟩
  | 16 => ⟨S4x20x5000, .f32⟩
  | 17 => ⟨S4x20x5000, .f32⟩
  | 18 => ⟨S_, .f32⟩
  | 19 => ⟨S4x20x5000, .f32⟩
  | 20 => ⟨S4x20x5000, .f32⟩
  | 21 => ⟨S4x20x5000, .f32⟩
  | 22 => ⟨S4x20x1x1, .f32⟩
  | 23 => ⟨S4x20x1, .f32⟩
  | 24 => ⟨S4x20x1x1, .f32⟩
  | 25 => ⟨S4x20x1, .f32⟩
  | 26 => ⟨S4x20x1, .f32⟩
  | 27 => ⟨S_, .f32⟩
  | 28 => ⟨S4x20x1, .f32⟩
  | 29 => ⟨S4x20x1, .f32⟩
  | 30 => ⟨S4x20x1x1, .f32⟩
  | 31 => ⟨S4x20x1, .f32⟩
  | 32 => ⟨S4x20x1x1, .f32⟩
  | 33 => ⟨S4x20x1, .f32⟩
  | 34 => ⟨S4x20x1, .f32⟩
  | 35 => ⟨S_, .f32⟩
  | 36 => ⟨S4x20x1, .f32⟩
  | 37 => ⟨S4x20x1, .f32⟩
  | 38 => ⟨S4x20x1, .f32⟩
  | 39 => ⟨S4x1x5000x1, .f32⟩
  | 40 => ⟨S4x1x5000, .f32⟩
  | 41 => ⟨S4x1x5000x1, .f32⟩
  | 42 => ⟨S4x1x5000, .f32⟩
  | 43 => ⟨S4x1x5000, .f32⟩
  | 44 => ⟨S_, .f32⟩
  | 45 => ⟨S4x1x5000, .f32⟩
  | 46 => ⟨S4x1x5000, .f32⟩
  | 47 => ⟨S4x1x5000x1, .f32⟩
  | 48 => ⟨S4x1x5000, .f32⟩
  | 49 => ⟨S4x1x5000x1, .f32⟩
  | 50 => ⟨S4x1x5000, .f32⟩
  | 51 => ⟨S4x1x5000, .f32⟩
  | 52 => ⟨S_, .f32⟩
  | 53 => ⟨S4x1x5000, .f32⟩
  | 54 => ⟨S4x1x5000, .f32⟩
  | 55 => ⟨S4x1x5000, .f32⟩
  | 56 => ⟨S4x20x5000, .f32⟩
  | 57 => ⟨S4x20x5000, .f32⟩
  | 58 => ⟨S4x20x5000, .f32⟩
  | 59 => ⟨S4x20x5000, .f32⟩
  | 60 => ⟨S_, .f32⟩
  | 61 => ⟨S4x20x5000, .f32⟩
  | 62 => ⟨S4x20x5000, .f32⟩
  | 63 => ⟨S4x20x5000, .f32⟩
  | 64 => ⟨S_, .f32⟩
  | 65 => ⟨S4x20x5000, .f32⟩
  | 66 => ⟨S4x20x5000, .i1⟩
  | 67 => ⟨S4x20x5000, .i32⟩
  | 68 => ⟨S4x20x5000, .i1⟩
  | 69 => ⟨S4x20x5000, .i1⟩
  | 70 => ⟨S4x20x5000, .i1⟩
  | 71 => ⟨S4x20x5000, .i1⟩
  | 72 => ⟨S_, .f32⟩
  | 73 => ⟨S4x20x5000, .f32⟩
  | 74 => ⟨S4x20x5000, .f32⟩
  | 75 => ⟨S4x20x5, .f32⟩
  | 76 => ⟨S4x20x5, .i1⟩
  | 77 => ⟨S_, .f32⟩
  | 78 => ⟨S4x20x5, .f32⟩
  | 79 => ⟨S4x20x5, .f32⟩
  | 80 => ⟨S1x4x20x5, .f32⟩
  | 81 => ⟨S_, .i32⟩
  | 82 => ⟨S_, .i32⟩
  | 83 => ⟨S_, .i32⟩
  | 84 => ⟨S100x4x20x5, .f32⟩
  | 85 => ⟨S_, .i32⟩
  | 86 => ⟨S_, .i32⟩
  | 87 => ⟨S4x20x100x5, .f32⟩
  | 88 => ⟨S20, .f32⟩
  | 89 => ⟨S_, .f32⟩
  | 90 => ⟨S20, .f32⟩
  | 91 => ⟨S20, .f32⟩
  | 92 => ⟨S1x20x1x1, .f32⟩
  | 93 => ⟨S4x20x100x1, .f32⟩
  | 94 => ⟨S4x20x100x6, .f32⟩
  | 95 => ⟨S4x2000x6, .f32⟩
  | 96 => ⟨S4x2000x1, .f32⟩
  | 97 => ⟨S4x2000, .f32⟩
  | 98 => ⟨S4x100, .f32⟩
  | 99 => ⟨S4x100, .i32⟩
  | 100 => ⟨S4x100x1, .i32⟩
  | 101 => ⟨S4x100x6, .f32⟩
  | _ => ⟨S4x5000x33, .f32⟩

abbrev hbmTy (i : Nat) : BufTy := match i / 128 with
  | 0 => hbmTy0_0 i
  | 1 => hbmTy0_1 i
  | _ => ⟨S4x5000x33, .f32⟩

abbrev bufTy : (tb : Table) → Fin (tcTables nBuf tb) → BufTy
  | .hbm, ⟨i, _⟩ => hbmTy i
  | _, _ => ⟨S4x5000x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_cst : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_cst_0 : Ref sig .tc := ⟨.hbm, 48, rfl⟩
abbrev main_v46 : Ref sig .tc := ⟨.hbm, 49, rfl⟩
abbrev main_v47 : Ref sig .tc := ⟨.hbm, 50, rfl⟩
abbrev main_cst_1 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_cst_2 : Ref sig .tc := ⟨.hbm, 55, rfl⟩
abbrev main_v51 : Ref sig .tc := ⟨.hbm, 56, rfl⟩
abbrev main_v52 : Ref sig .tc := ⟨.hbm, 57, rfl⟩
abbrev main_cst_3 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_cst_4 : Ref sig .tc := ⟨.hbm, 62, rfl⟩
abbrev main_v56 : Ref sig .tc := ⟨.hbm, 63, rfl⟩
abbrev main_v57 : Ref sig .tc := ⟨.hbm, 64, rfl⟩
abbrev main_cst_5 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_6 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_7 : Ref sig .tc := ⟨.hbm, 80, rfl⟩
abbrev main_v71 : Ref sig .tc := ⟨.hbm, 81, rfl⟩
abbrev main_v72 : Ref sig .tc := ⟨.hbm, 82, rfl⟩
abbrev main_cst_8 : Ref sig .tc := ⟨.hbm, 83, rfl⟩
abbrev main_v73 : Ref sig .tc := ⟨.hbm, 84, rfl⟩
abbrev main_v74 : Ref sig .tc := ⟨.hbm, 85, rfl⟩
abbrev main_cst_9 : Ref sig .tc := ⟨.hbm, 86, rfl⟩
abbrev main_v75 : Ref sig .tc := ⟨.hbm, 87, rfl⟩
abbrev main_c : Ref sig .tc := ⟨.hbm, 88, rfl⟩
abbrev main_v76_0 : Ref sig .tc := ⟨.hbm, 89, rfl⟩
abbrev main_v76_1 : Ref sig .tc := ⟨.hbm, 90, rfl⟩
abbrev main_v76_2 : Ref sig .tc := ⟨.hbm, 91, rfl⟩
abbrev main_v76_3 : Ref sig .tc := ⟨.hbm, 92, rfl⟩
abbrev main_v76_4 : Ref sig .tc := ⟨.hbm, 93, rfl⟩
abbrev main_while0c_c_15 : Ref sig .tc := ⟨.hbm, 94, rfl⟩
abbrev main_while0c_v89 : Ref sig .tc := ⟨.hbm, 95, rfl⟩
abbrev main_while0b_cst_15 : Ref sig .tc := ⟨.hbm, 96, rfl⟩
abbrev main_while0b_v89 : Ref sig .tc := ⟨.hbm, 97, rfl⟩
abbrev main_while0b_v90 : Ref sig .tc := ⟨.hbm, 98, rfl⟩
abbrev main_while0b_v91 : Ref sig .tc := ⟨.hbm, 99, rfl⟩
abbrev main_while0b_v92 : Ref sig .tc := ⟨.hbm, 100, rfl⟩
abbrev main_while0b_c_16 : Ref sig .tc := ⟨.hbm, 101, rfl⟩
abbrev main_while0b_v93 : Ref sig .tc := ⟨.hbm, 102, rfl⟩
abbrev main_while0b_v94 : Ref sig .tc := ⟨.hbm, 103, rfl⟩
abbrev main_while0b_c_17 : Ref sig .tc := ⟨.hbm, 104, rfl⟩
abbrev main_while0b_v95 : Ref sig .tc := ⟨.hbm, 105, rfl⟩
abbrev main_while0b_v96 : Ref sig .tc := ⟨.hbm, 106, rfl⟩
abbrev main_while0b_v97 : Ref sig .tc := ⟨.hbm, 107, rfl⟩
abbrev main_while0b_cst_18 : Ref sig .tc := ⟨.hbm, 108, rfl⟩
abbrev main_while0b_v98 : Ref sig .tc := ⟨.hbm, 109, rfl⟩
abbrev main_while0b_v99 : Ref sig .tc := ⟨.hbm, 110, rfl⟩
abbrev main_while0b_v100 : Ref sig .tc := ⟨.hbm, 111, rfl⟩
abbrev main_while0b_v101 : Ref sig .tc := ⟨.hbm, 112, rfl⟩
abbrev main_while0b_v102 : Ref sig .tc := ⟨.hbm, 113, rfl⟩
abbrev main_while0b_v103 : Ref sig .tc := ⟨.hbm, 114, rfl⟩
abbrev main_while0b_v104 : Ref sig .tc := ⟨.hbm, 115, rfl⟩
abbrev main_while0b_v105 : Ref sig .tc := ⟨.hbm, 116, rfl⟩
abbrev main_while0b_v106 : Ref sig .tc := ⟨.hbm, 117, rfl⟩
abbrev main_while0b_v107 : Ref sig .tc := ⟨.hbm, 118, rfl⟩
abbrev main_while0b_v108 : Ref sig .tc := ⟨.hbm, 119, rfl⟩
abbrev main_while0b_v109 : Ref sig .tc := ⟨.hbm, 120, rfl⟩
abbrev main_while0b_v110 : Ref sig .tc := ⟨.hbm, 121, rfl⟩
abbrev main_while0b_v111 : Ref sig .tc := ⟨.hbm, 122, rfl⟩
abbrev main_while0b_v112 : Ref sig .tc := ⟨.hbm, 123, rfl⟩
abbrev main_while0b_v113 : Ref sig .tc := ⟨.hbm, 124, rfl⟩
abbrev main_while0b_v114 : Ref sig .tc := ⟨.hbm, 125, rfl⟩
abbrev main_while0b_v115 : Ref sig .tc := ⟨.hbm, 126, rfl⟩
abbrev main_while0b_v116 : Ref sig .tc := ⟨.hbm, 127, rfl⟩
abbrev main_while0b_v117 : Ref sig .tc := ⟨.hbm, 128, rfl⟩
abbrev main_while0b_v118 : Ref sig .tc := ⟨.hbm, 129, rfl⟩
abbrev main_while0b_v119 : Ref sig .tc := ⟨.hbm, 130, rfl⟩
abbrev main_while0b_v120 : Ref sig .tc := ⟨.hbm, 131, rfl⟩
abbrev main_while0b_v121 : Ref sig .tc := ⟨.hbm, 132, rfl⟩
abbrev main_while0b_v122 : Ref sig .tc := ⟨.hbm, 133, rfl⟩
abbrev main_while0b_v123 : Ref sig .tc := ⟨.hbm, 134, rfl⟩
abbrev main_while0b_v124 : Ref sig .tc := ⟨.hbm, 135, rfl⟩
abbrev main_while0b_v125 : Ref sig .tc := ⟨.hbm, 136, rfl⟩
abbrev main_while0b_v126 : Ref sig .tc := ⟨.hbm, 137, rfl⟩
abbrev main_while0b_v127 : Ref sig .tc := ⟨.hbm, 138, rfl⟩
abbrev main_while0b_v128 : Ref sig .tc := ⟨.hbm, 139, rfl⟩
abbrev main_while0b_v129 : Ref sig .tc := ⟨.hbm, 140, rfl⟩
abbrev main_while0b_v130 : Ref sig .tc := ⟨.hbm, 141, rfl⟩
abbrev main_while0b_cst_19 : Ref sig .tc := ⟨.hbm, 142, rfl⟩
abbrev main_while0b_v131 : Ref sig .tc := ⟨.hbm, 143, rfl⟩
abbrev main_while0b_v132 : Ref sig .tc := ⟨.hbm, 144, rfl⟩
abbrev main_while0b_v133 : Ref sig .tc := ⟨.hbm, 145, rfl⟩
abbrev main_while0b_cst_20 : Ref sig .tc := ⟨.hbm, 146, rfl⟩
abbrev main_while0b_v134 : Ref sig .tc := ⟨.hbm, 147, rfl⟩
abbrev main_while0b_v135 : Ref sig .tc := ⟨.hbm, 148, rfl⟩
abbrev main_while0b_v136 : Ref sig .tc := ⟨.hbm, 149, rfl⟩
abbrev main_while0b_v137 : Ref sig .tc := ⟨.hbm, 150, rfl⟩
abbrev main_while0b_v138 : Ref sig .tc := ⟨.hbm, 151, rfl⟩
abbrev main_while0b_v139 : Ref sig .tc := ⟨.hbm, 152, rfl⟩
abbrev main_while0b_v140 : Ref sig .tc := ⟨.hbm, 153, rfl⟩
abbrev main_while0b_v141 : Ref sig .tc := ⟨.hbm, 154, rfl⟩
abbrev main_while0b_cst_21 : Ref sig .tc := ⟨.hbm, 155, rfl⟩
abbrev main_while0b_v142 : Ref sig .tc := ⟨.hbm, 156, rfl⟩
abbrev main_while0b_v143 : Ref sig .tc := ⟨.hbm, 157, rfl⟩
abbrev main_while0b_v144 : Ref sig .tc := ⟨.hbm, 158, rfl⟩
abbrev main_while0b_v145 : Ref sig .tc := ⟨.hbm, 159, rfl⟩
abbrev main_while0b_v146 : Ref sig .tc := ⟨.hbm, 160, rfl⟩
abbrev main_while0b_v147 : Ref sig .tc := ⟨.hbm, 161, rfl⟩
abbrev main_while0b_v148 : Ref sig .tc := ⟨.hbm, 162, rfl⟩
abbrev main_while0b_cst_22 : Ref sig .tc := ⟨.hbm, 163, rfl⟩
abbrev main_while0b_v149 : Ref sig .tc := ⟨.hbm, 164, rfl⟩
abbrev main_while0b_v150 : Ref sig .tc := ⟨.hbm, 165, rfl⟩
abbrev main_while0b_v151 : Ref sig .tc := ⟨.hbm, 166, rfl⟩
abbrev main_while0b_v152 : Ref sig .tc := ⟨.hbm, 167, rfl⟩
abbrev main_while0b_v153 : Ref sig .tc := ⟨.hbm, 168, rfl⟩
abbrev main_while0b_v154 : Ref sig .tc := ⟨.hbm, 169, rfl⟩
abbrev main_while0b_v155 : Ref sig .tc := ⟨.hbm, 170, rfl⟩
abbrev main_while0b_v156 : Ref sig .tc := ⟨.hbm, 171, rfl⟩
abbrev main_while0b_cst_23 : Ref sig .tc := ⟨.hbm, 172, rfl⟩
abbrev main_while0b_v157 : Ref sig .tc := ⟨.hbm, 173, rfl⟩
abbrev main_while0b_v158 : Ref sig .tc := ⟨.hbm, 174, rfl⟩
abbrev main_while0b_v159 : Ref sig .tc := ⟨.hbm, 175, rfl⟩
abbrev main_while0b_v160 : Ref sig .tc := ⟨.hbm, 176, rfl⟩
abbrev main_while0b_v161 : Ref sig .tc := ⟨.hbm, 177, rfl⟩
abbrev main_while0b_v162 : Ref sig .tc := ⟨.hbm, 178, rfl⟩
abbrev main_while0b_v163 : Ref sig .tc := ⟨.hbm, 179, rfl⟩
abbrev main_while0b_cst_24 : Ref sig .tc := ⟨.hbm, 180, rfl⟩
abbrev main_while0b_v164 : Ref sig .tc := ⟨.hbm, 181, rfl⟩
abbrev main_while0b_v165 : Ref sig .tc := ⟨.hbm, 182, rfl⟩
abbrev main_while0b_v166 : Ref sig .tc := ⟨.hbm, 183, rfl⟩
abbrev main_while0b_v167 : Ref sig .tc := ⟨.hbm, 184, rfl⟩
abbrev main_while0b_v168 : Ref sig .tc := ⟨.hbm, 185, rfl⟩
abbrev main_while0b_v169 : Ref sig .tc := ⟨.hbm, 186, rfl⟩
abbrev main_while0b_v170 : Ref sig .tc := ⟨.hbm, 187, rfl⟩
abbrev main_while0b_cst_25 : Ref sig .tc := ⟨.hbm, 188, rfl⟩
abbrev main_while0b_v171 : Ref sig .tc := ⟨.hbm, 189, rfl⟩
abbrev main_while0b_v172 : Ref sig .tc := ⟨.hbm, 190, rfl⟩
abbrev main_while0b_v173 : Ref sig .tc := ⟨.hbm, 191, rfl⟩
abbrev main_while0b_cst_26 : Ref sig .tc := ⟨.hbm, 192, rfl⟩
abbrev main_while0b_v174 : Ref sig .tc := ⟨.hbm, 193, rfl⟩
abbrev main_while0b_v175 : Ref sig .tc := ⟨.hbm, 194, rfl⟩
abbrev main_while0b_v176 : Ref sig .tc := ⟨.hbm, 195, rfl⟩
abbrev main_while0b_v177 : Ref sig .tc := ⟨.hbm, 196, rfl⟩
abbrev main_while0b_v178 : Ref sig .tc := ⟨.hbm, 197, rfl⟩
abbrev main_while0b_v179 : Ref sig .tc := ⟨.hbm, 198, rfl⟩
abbrev main_while0b_v180 : Ref sig .tc := ⟨.hbm, 199, rfl⟩
abbrev main_while0b_cst_27 : Ref sig .tc := ⟨.hbm, 200, rfl⟩
abbrev main_while0b_v181 : Ref sig .tc := ⟨.hbm, 201, rfl⟩
abbrev main_while0b_v182 : Ref sig .tc := ⟨.hbm, 202, rfl⟩
abbrev main_while0b_v183 : Ref sig .tc := ⟨.hbm, 203, rfl⟩
abbrev main_while0b_v184 : Ref sig .tc := ⟨.hbm, 204, rfl⟩
abbrev main_while0b_cst_28 : Ref sig .tc := ⟨.hbm, 205, rfl⟩
abbrev main_while0b_v185 : Ref sig .tc := ⟨.hbm, 206, rfl⟩
abbrev main_while0b_v186 : Ref sig .tc := ⟨.hbm, 207, rfl⟩
abbrev main_while0b_call0_v0 : Ref sig .tc := ⟨.hbm, 208, rfl⟩
abbrev main_while0b_call0_c : Ref sig .tc := ⟨.hbm, 209, rfl⟩
abbrev main_while0b_call0_c_0 : Ref sig .tc := ⟨.hbm, 210, rfl⟩
abbrev main_while0b_call0_c_1 : Ref sig .tc := ⟨.hbm, 211, rfl⟩
abbrev main_while0b_v187 : Ref sig .tc := ⟨.hbm, 212, rfl⟩
abbrev main_while0b_c_29 : Ref sig .tc := ⟨.hbm, 213, rfl⟩
abbrev main_while0b_v188 : Ref sig .tc := ⟨.hbm, 214, rfl⟩
abbrev main_v77 : Ref sig .tc := ⟨.hbm, 215, rfl⟩
abbrev main_v78 : Ref sig .tc := ⟨.hbm, 216, rfl⟩
abbrev main_cst_10 : Ref sig .tc := ⟨.hbm, 217, rfl⟩
abbrev main_v79 : Ref sig .tc := ⟨.hbm, 218, rfl⟩
abbrev main_v80 : Ref sig .tc := ⟨.hbm, 219, rfl⟩
abbrev main_v81 : Ref sig .tc := ⟨.hbm, 220, rfl⟩
abbrev main_v82 : Ref sig .tc := ⟨.hbm, 221, rfl⟩
abbrev main_v83 : Ref sig .tc := ⟨.hbm, 222, rfl⟩
abbrev main_v84 : Ref sig .tc := ⟨.hbm, 223, rfl⟩
abbrev main_v85 : Ref sig .tc := ⟨.hbm, 224, rfl⟩
abbrev main_v86 : Ref sig .tc := ⟨.hbm, 225, rfl⟩
abbrev main_values : Ref sig .tc := ⟨.hbm, 226, rfl⟩
abbrev main_indices : Ref sig .tc := ⟨.hbm, 227, rfl⟩
abbrev main_v87 : Ref sig .tc := ⟨.hbm, 228, rfl⟩
abbrev main_v88 : Ref sig .tc := ⟨.hbm, 229, rfl⟩

abbrev nD : Nat := 1
abbrev τ : Topo := Topo.v7x

variable {F : FTy → Type} [FloatOps F]

abbrev main_while0_count : Scf.Loop 32 := ⟨0#32, 100#32, 1#32⟩
-- ==== Proof.Re.Chunks.lean ====
/- The suppression loop chunk by chunk, and what it starts from. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Re

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One round of the suppression loop, chunk by chunk

The scores are 40 chunks of 128 lanes. A round picks, per row, the first anchor of the greatest score out of
what the round before left per lane, and then goes over the chunks once: it strikes out the anchors that
overlap the pick, and notes per lane the greatest score left, its chunk and its box. -/

/-- What the loop carries, per row and lane: the greatest score, the chunk it is in, and that anchor's box. -/
abbrev Lanes (F : FTy → Type) : Type :=
  FVec F S80x128 .f32 × FVec F S80x128 .f32 × FVec F S80x128 .f32 × FVec F S80x128 .f32 × FVec F S80x128 .f32 × FVec F S80x128 .f32

/-- A chunk's 128 lanes lie in the 5120. -/
theorem chunk_inb (n : ℕ) (a : Fin 2) : (![0, 128 * (n % 40)] : Fin 2 → ℕ) a + S80x128.size a ≤ S80x5120.size a := by
  fin_cases a
  · exact le_refl 80
  · show 128 * (n % 40) + 128 ≤ 5120
    omega

/-- Chunk `n` (of the 40) of a `80 × 5120` buffer. -/
abbrev chunkRect (n : ℕ) : Rect S80x5120 :=
  Rect.unit (s := S80x5120) ![0, 128 * (n % 40)] S80x128.size (chunk_inb n)

/-- The float word of a chunk's number. -/
def chunkWord : ℕ → BitVec 32
  | 0 => 0x00000000#32
  | 1 => 0x3F800000#32
  | 2 => 0x40000000#32
  | 3 => 0x40400000#32
  | 4 => 0x40800000#32
  | 5 => 0x40A00000#32
  | 6 => 0x40C00000#32
  | 7 => 0x40E00000#32
  | 8 => 0x41000000#32
  | 9 => 0x41100000#32
  | 10 => 0x41200000#32
  | 11 => 0x41300000#32
  | 12 => 0x41400000#32
  | 13 => 0x41500000#32
  | 14 => 0x41600000#32
  | 15 => 0x41700000#32
  | 16 => 0x41800000#32
  | 17 => 0x41880000#32
  | 18 => 0x41900000#32
  | 19 => 0x41980000#32
  | 20 => 0x41A00000#32
  | 21 => 0x41A80000#32
  | 22 => 0x41B00000#32
  | 23 => 0x41B80000#32
  | 24 => 0x41C00000#32
  | 25 => 0x41C80000#32
  | 26 => 0x41D00000#32
  | 27 => 0x41D80000#32
  | 28 => 0x41E00000#32
  | 29 => 0x41E80000#32
  | 30 => 0x41F00000#32
  | 31 => 0x41F80000#32
  | 32 => 0x42000000#32
  | 33 => 0x42040000#32
  | 34 => 0x42080000#32
  | 35 => 0x420C0000#32
  | 36 => 0x42100000#32
  | 37 => 0x42140000#32
  | 38 => 0x42180000#32
  | 39 => 0x421C0000#32
  | _ => 0x00000000#32

/-- The row's pick: its score, -/
def pickScore (A : Lanes F) : FVec F S80x1 .f32 := k0_pay5 A.1
/-- its lane, -/
def pickLane (A : Lanes F) : IVec S80x1 32 := k0_pay6 k0_pay3 A.1 A.2.1
/-- and the corners of its box. -/
def pickX0 (A : Lanes F) : FVec F S80x1 .f32 := k0_pay7 k0_pay3 A.1 A.2.1 A.2.2.1
def pickY0 (A : Lanes F) : FVec F S80x1 .f32 := k0_pay8 k0_pay3 A.1 A.2.1 A.2.2.2.1
def pickX1 (A : Lanes F) : FVec F S80x1 .f32 :=
  k0_pay12 A.2.2.2.2.1 (k0_pay9 k0_pay3 A.1 A.2.1) (k0_pay10 k0_pay3 A.1 A.2.1) (k0_pay11 k0_pay3 A.1 A.2.1)
def pickY1 (A : Lanes F) : FVec F S80x1 .f32 := k0_pay13 A.2.2.2.2.2 (pickLane A)

/-- The pick's corners and area along the lanes of its row. -/
def rowX0 (A : Lanes F) : FVec F S80x128 .f32 := k0_pay15 (pickX0 A)
def rowY0 (A : Lanes F) : FVec F S80x128 .f32 := k0_pay16 (pickY0 A)
def rowX1 (A : Lanes F) : FVec F S80x128 .f32 :=
  k0_pay17 A.2.2.2.2.1 (k0_pay9 k0_pay3 A.1 A.2.1) (k0_pay10 k0_pay3 A.1 A.2.1) (k0_pay11 k0_pay3 A.1 A.2.1)
def rowY1 (A : Lanes F) : FVec F S80x128 .f32 := k0_pay18 A.2.2.2.2.2 (pickLane A)
def rowArea (A : Lanes F) : FVec F S80x128 .f32 :=
  k0_pay19 A.2.2.2.2.1 A.2.2.2.2.2 (pickLane A) (pickX0 A) (pickY0 A)
    (k0_pay9 k0_pay3 A.1 A.2.1) (k0_pay10 k0_pay3 A.1 A.2.1) (k0_pay11 k0_pay3 A.1 A.2.1)

/-- A chunk's intersection with the boxes `q`. -/
def inter (q0 q1 q2 q3 x0 y0 x1 y1 : FVec F S80x128 .f32) : FVec F S80x128 .f32 :=
  mulf (maximumf (subf (minimumf q2 x1) (maximumf q0 x0)) (broadcast S80x128 (Scalar.ofBits .f32 0x00000000#32)))
    (maximumf (subf (minimumf q3 y1) (maximumf q1 y0)) (broadcast S80x128 (Scalar.ofBits .f32 0x00000000#32)))

/-- A chunk's scores with the overlapping anchors struck out. -/
def struck (q0 q1 q2 q3 qa x0 y0 x1 y1 ar s : FVec F S80x128 .f32) : FVec F S80x128 .f32 :=
  select (cmpf .oge (divf (inter q0 q1 q2 q3 x0 y0 x1 y1)
      (maximumf (subf (addf qa ar) (inter q0 q1 q2 q3 x0 y0 x1 y1)) (broadcast S80x128 (Scalar.ofBits .f32 0x322BCC77#32))))
    (broadcast S80x128 (Scalar.ofBits .f32 0x3EE66666#32)))
    (broadcast S80x128 (Scalar.ofBits .f32 0xCE6E6B28#32)) s

/-- The lanes' bests with one more chunk (scores `s`, boxes `x0 … y1`, numbered `w`). -/
def better (w : BitVec 32) (s x0 y0 x1 y1 : FVec F S80x128 .f32) (A : Lanes F) : Lanes F :=
  (maximumf A.1 s, select (cmpf .ogt s A.1) (broadcast S80x128 (Scalar.ofBits .f32 w)) A.2.1,
    select (cmpf .ogt s A.1) x0 A.2.2.1, select (cmpf .ogt s A.1) y0 A.2.2.2.1,
    select (cmpf .ogt s A.1) x1 A.2.2.2.2.1, select (cmpf .ogt s A.1) y1 A.2.2.2.2.2)

/-- The lanes' bests over the chunks `0 … n` of scores `s` and boxes `x0 … y1`. -/
def bestUpTo (s x0 y0 x1 y1 : ℕ → FVec F S80x128 .f32) : ℕ → Lanes F
  | 0 => (s 0, broadcast S80x128 (Scalar.ofBits .f32 0x00000000#32), x0 0, y0 0, x1 0, y1 0)
  | n + 1 => better (chunkWord (n + 1)) (s (n + 1)) (x0 (n + 1)) (y0 (n + 1)) (x1 (n + 1)) (y1 (n + 1))
      (bestUpTo s x0 y0 x1 y1 n)

/-- Chunk `n` of a vector of `80 × 5120`. -/
abbrev chunkVec (v : FVec F S80x5120 .f32) (n : ℕ) : FVec F S80x128 .f32 :=
  extractStridedSlice S80x128 ![0, 128 * (n % 40)] v ⟨rfl, chunk_inb n⟩

/-- The lanes' bests the loop starts from: over all chunks of the scores and boxes. -/
def firstBest (v99 v59 v63 v67 v71 : FVec F S80x5120 .f32) : Lanes F :=
  bestUpTo (chunkVec v99) (chunkVec v59) (chunkVec v63) (chunkVec v67) (chunkVec v71) 39

/-- The stores of the chunks before `n`, last first. -/
def chunkPieces (s : ℕ → FVec F S80x128 .f32) : ℕ → List (View.Piece (Elt F) S80x5120 .f32)
  | 0 => []
  | n + 1 => ⟨chunkRect n, shapeCast S80x128 (s n) shapeCasts_S80x128_S80x128⟩ :: chunkPieces s n

/-- The stores that fill the scratch buffers, and the scores with the low ones struck out. -/
def fillScratch (arg0 : Memref sig .tc .vmem S80x5120 .f32) (harg0 : arg0.IsWhole) (arg1 : Memref sig .tc .vmem S12x4x5120 .f32) (harg1 : arg1.IsWhole) (arg2 : Memref sig .tc .vmem S5x100x80 .f32) (harg2 : arg2.IsWhole) (arg3 : Memref sig .tc .vmem S80x5120 .f32) (harg3 : arg3.IsWhole) (arg4 : Memref sig .tc .vmem S80x5120 .f32) (harg4 : arg4.IsWhole) (arg5 : Memref sig .tc .vmem S80x5120 .f32) (harg5 : arg5.IsWhole) (arg6 : Memref sig .tc .vmem S80x5120 .f32) (harg6 : arg6.IsWhole) (arg7 : Memref sig .tc .vmem S80x5120 .f32) (harg7 : arg7.IsWhole) (arg8 : Memref sig .tc .vmem S80x5120 .f32) (harg8 : arg8.IsWhole) (v59 v63 v67 v71 : FVec F S80x5120 .f32) : Prog (TpuEff nD τ sig (Elt F) Λ₀ .tc) (FVec F S80x5120 .f32) := do
  let ⟨v99, _, _, _, _, _, _, _, _⟩ ← k0_part44_skel arg0 harg0 arg1 harg1 arg2 harg2 arg3 harg3 arg4 harg4 arg5 harg5 arg6 harg6 arg7 harg7 arg8 harg8 v59 v63 v67 v71
  pure v99

/-- The loop, from the bests `A`. -/
def loopRest (arg0 : Memref sig .tc .vmem S80x5120 .f32) (harg0 : arg0.IsWhole) (arg1 : Memref sig .tc .vmem S12x4x5120 .f32) (harg1 : arg1.IsWhole) (arg2 : Memref sig .tc .vmem S5x100x80 .f32) (harg2 : arg2.IsWhole) (arg3 : Memref sig .tc .vmem S80x5120 .f32) (harg3 : arg3.IsWhole) (arg4 : Memref sig .tc .vmem S80x5120 .f32) (harg4 : arg4.IsWhole) (arg5 : Memref sig .tc .vmem S80x5120 .f32) (harg5 : arg5.IsWhole) (arg6 : Memref sig .tc .vmem S80x5120 .f32) (harg6 : arg6.IsWhole) (arg7 : Memref sig .tc .vmem S80x5120 .f32) (harg7 : arg7.IsWhole) (arg8 : Memref sig .tc .vmem S80x5120 .f32) (harg8 : arg8.IsWhole) (A : Lanes F) : Prog (TpuEff nD τ sig (Elt F) Λ₀ .tc) PUnit := do
  let (_, _, _, _, _, _) ← Scf.Loop.for k0_t1_loop k0_t1_ok A (k0_t1_body arg0 harg0 arg1 harg1 arg2 harg2 arg3 harg3 arg4 harg4 arg5 harg5 arg6 harg6 arg7 harg7 arg8 harg8)
  pure ⟨⟩

/-- Everything before the loop: the scratch filled, and the bests the loop starts from. -/
def beforeLoop (arg0 : Memref sig .tc .vmem S80x5120 .f32) (harg0 : arg0.IsWhole) (arg1 : Memref sig .tc .vmem S12x4x5120 .f32) (harg1 : arg1.IsWhole) (arg2 : Memref sig .tc .vmem S5x100x80 .f32) (harg2 : arg2.IsWhole) (arg3 : Memref sig .tc .vmem S80x5120 .f32) (harg3 : arg3.IsWhole) (arg4 : Memref sig .tc .vmem S80x5120 .f32) (harg4 : arg4.IsWhole) (arg5 : Memref sig .tc .vmem S80x5120 .f32) (harg5 : arg5.IsWhole) (arg6 : Memref sig .tc .vmem S80x5120 .f32) (harg6 : arg6.IsWhole) (arg7 : Memref sig .tc .vmem S80x5120 .f32) (harg7 : arg7.IsWhole) (arg8 : Memref sig .tc .vmem S80x5120 .f32) (harg8 : arg8.IsWhole) : Prog (TpuEff nD τ sig (Elt F) Λ₀ .tc) (Lanes F) := do
  let ⟨v1, v3, v5, v7, v9, v11, v13, v15, v17, v19, v21, v23⟩ ← k0_part42_skel arg0 harg0 arg1 harg1 arg2 harg2 arg3 harg3 arg4 harg4 arg5 harg5 arg6 harg6 arg7 harg7 arg8 harg8
  let ⟨v59, v63, v67, v71⟩ ← k0_part43_skel arg0 harg0 arg1 harg1 arg2 harg2 arg3 harg3 arg4 harg4 arg5 harg5 arg6 harg6 arg7 harg7 arg8 harg8 v1 v3 v5 v7 v9 v11 v13 v15 v17 v19 v21 v23
  let v99 ← fillScratch arg0 harg0 arg1 harg1 arg2 harg2 arg3 harg3 arg4 harg4 arg5 harg5 arg6 harg6 arg7 harg7 arg8 harg8 v59 v63 v67 v71
  pure (firstBest v99 v59 v63 v67 v71)

/-- The kernel in two parts: what comes before the loop, and the loop. -/
def nmsBody (arg0 : Memref sig .tc .vmem S80x5120 .f32) (harg0 : arg0.IsWhole) (arg1 : Memref sig .tc .vmem S12x4x5120 .f32) (harg1 : arg1.IsWhole) (arg2 : Memref sig .tc .vmem S5x100x80 .f32) (harg2 : arg2.IsWhole) (arg3 : Memref sig .tc .vmem S80x5120 .f32) (harg3 : arg3.IsWhole) (arg4 : Memref sig .tc .vmem S80x5120 .f32) (harg4 : arg4.IsWhole) (arg5 : Memref sig .tc .vmem S80x5120 .f32) (harg5 : arg5.IsWhole) (arg6 : Memref sig .tc .vmem S80x5120 .f32) (harg6 : arg6.IsWhole) (arg7 : Memref sig .tc .vmem S80x5120 .f32) (harg7 : arg7.IsWhole) (arg8 : Memref sig .tc .vmem S80x5120 .f32) (harg8 : arg8.IsWhole) : Prog (TpuEff nD τ sig (Elt F) Λ₀ .tc) PUnit :=
  beforeLoop arg0 harg0 arg1 harg1 arg2 harg2 arg3 harg3 arg4 harg4 arg5 harg5 arg6 harg6 arg7 harg7 arg8 harg8 >>= loopRest arg0 harg0 arg1 harg1 arg2 harg2 arg3 harg3 arg4 harg4 arg5 harg5 arg6 harg6 arg7 harg7 arg8 harg8

set_option maxHeartbeats 4000000 in
/-- The kernel is that program: its other statements compute the start of the loop. -/
theorem nms_body_eq (arg0 : Memref sig .tc .vmem S80x5120 .f32) (harg0 : arg0.IsWhole) (arg1 : Memref sig .tc .vmem S12x4x5120 .f32) (harg1 : arg1.IsWhole) (arg2 : Memref sig .tc .vmem S5x100x80 .f32) (harg2 : arg2.IsWhole) (arg3 : Memref sig .tc .vmem S80x5120 .f32) (harg3 : arg3.IsWhole) (arg4 : Memref sig .tc .vmem S80x5120 .f32) (harg4 : arg4.IsWhole) (arg5 : Memref sig .tc .vmem S80x5120 .f32) (harg5 : arg5.IsWhole) (arg6 : Memref sig .tc .vmem S80x5120 .f32) (harg6 : arg6.IsWhole) (arg7 : Memref sig .tc .vmem S80x5120 .f32) (harg7 : arg7.IsWhole) (arg8 : Memref sig .tc .vmem S80x5120 .f32) (harg8 : arg8.IsWhole) : cc0__nms_body (F := F) arg0 harg0 arg1 harg1 arg2 harg2 arg3 harg3 arg4 harg4 arg5 harg5 arg6 harg6 arg7 harg7 arg8 harg8 = nmsBody arg0 harg0 arg1 harg1 arg2 harg2 arg3 harg3 arg4 harg4 arg5 harg5 arg6 harg6 arg7 harg7 arg8 harg8 := by
  rw [cc0__nms_body_eq_skeleton]
  unfold cc0__nms_body_skel
  rw [k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
  rfl

attribute [irreducible] firstBest

end Cert.Proof.Re

end
-- ==== Proof.Re.Tile.lean ====
/- One round of the suppression loop as a function of what it starts from. -/
module

public import proofs.«01_k».proof.Proof.Re.Chunks
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Re

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Trip
variable (c : Dev nD) (arg0 : Memref sig .tc .vmem S80x5120 .f32) (harg0 : arg0.IsWhole) (arg1 : Memref sig .tc .vmem S12x4x5120 .f32) (harg1 : arg1.IsWhole) (arg2 : Memref sig .tc .vmem S5x100x80 .f32) (harg2 : arg2.IsWhole) (arg3 : Memref sig .tc .vmem S80x5120 .f32) (harg3 : arg3.IsWhole) (arg4 : Memref sig .tc .vmem S80x5120 .f32) (harg4 : arg4.IsWhole) (arg5 : Memref sig .tc .vmem S80x5120 .f32) (harg5 : arg5.IsWhole) (arg6 : Memref sig .tc .vmem S80x5120 .f32) (harg6 : arg6.IsWhole) (arg7 : Memref sig .tc .vmem S80x5120 .f32) (harg7 : arg7.IsWhole) (arg8 : Memref sig .tc .vmem S80x5120 .f32) (harg8 : arg8.IsWhole)
  (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)

/-- Chunk `n` of what a buffer holds. -/
abbrev chunkOf (a : Memref sig .tc .vmem S80x5120 .f32) (X : BufTy.Contents (Elt F) a.view.ty) (n : ℕ) : FVec F S80x128 .f32 :=
  View.readAt (Elt F) a.view (chunkRect n).toLoadRect X

/-- The chunks' scores after the round that starts from the bests `A` and the scores in `f3`. -/
def struckChunk (A : Lanes F) (f3 : BufTy.Contents (Elt F) arg3.view.ty) (n : ℕ) : FVec F S80x128 .f32 :=
  struck (rowX0 A) (rowY0 A) (rowX1 A) (rowY1 A) (rowArea A)
    (chunkOf arg4 X4 n) (chunkOf arg5 X5 n) (chunkOf arg6 X6 n) (chunkOf arg7 X7 n) (chunkOf arg8 X8 n) (chunkOf arg3 f3 n)

set_option maxHeartbeats 4000000 in
/-- What a round carries on: the lanes' bests over all chunks. -/
theorem trip_best (k : Fin k0_t1_loop.trips) (A : Lanes F) (f2 : BufTy.Contents (Elt F) arg2.view.ty) (f3 : BufTy.Contents (Elt F) arg3.view.ty) :
    (trip_k0_t1 (F := F) Variants.none c none arg0 harg0 arg1 harg1 arg2 harg2 arg3 harg3 arg4 harg4 arg5 harg5 arg6 harg6 arg7 harg7 arg8 harg8 X4 X5 X6 X7 X8 k).1 A f2 f3
      = bestUpTo (struckChunk arg3 arg4 arg5 arg6 arg7 arg8 X4 X5 X6 X7 X8 A f3) (chunkOf arg4 X4) (chunkOf arg5 X5) (chunkOf arg6 X6) (chunkOf arg7 X7) 39 := by
  unfold trip_k0_t1
  rfl

set_option maxHeartbeats 4000000 in
/-- What a round stores in the scores' buffer. -/
theorem trip_scores (k : Fin k0_t1_loop.trips) (A : Lanes F) (f2 : BufTy.Contents (Elt F) arg2.view.ty) (f3 : BufTy.Contents (Elt F) arg3.view.ty) :
    (trip_k0_t1 (F := F) Variants.none c none arg0 harg0 arg1 harg1 arg2 harg2 arg3 harg3 arg4 harg4 arg5 harg5 arg6 harg6 arg7 harg7 arg8 harg8 X4 X5 X6 X7 X8 k).2.2.1 A f2 f3
      = chunkPieces (struckChunk arg3 arg4 arg5 arg6 arg7 arg8 X4 X5 X6 X7 X8 A f3) 40 := by
  unfold trip_k0_t1
  rfl

/-- What a round stores in the output: its pick's score and box, or zeros. -/
def pickPieces (k : Fin k0_t1_loop.trips) (A : Lanes F) : List (View.Piece (Elt F) S5x100x80 .f32) :=
  [⟨Rect.unit (k0_off5 k) ![1, 1, 80] (k0_off5_inb k), k0_pay4 (k0_pay406 (k0_pay14 (pickScore A))) (k0_pay411 (pickY1 A)) (Scalar.ofBits .f32 0x00000000#32)⟩,
    ⟨Rect.unit (k0_off4 k) ![1, 1, 80] (k0_off4_inb k), k0_pay410 (pickX1 A) (k0_pay14 (pickScore A))⟩,
    ⟨Rect.unit (k0_off3 k) ![1, 1, 80] (k0_off3_inb k), k0_pay409 (pickY0 A) (k0_pay14 (pickScore A))⟩,
    ⟨Rect.unit (k0_off2 k) ![1, 1, 80] (k0_off2_inb k), k0_pay408 (pickX0 A) (k0_pay14 (pickScore A))⟩,
    ⟨Rect.unit (k0_off1 k) ![1, 1, 80] (k0_off1_inb k), k0_pay407 (pickScore A) (k0_pay14 (pickScore A))⟩]

theorem trip_picks (k : Fin k0_t1_loop.trips) (A : Lanes F) (f2 : BufTy.Contents (Elt F) arg2.view.ty) (f3 : BufTy.Contents (Elt F) arg3.view.ty) :
    (trip_k0_t1 (F := F) Variants.none c none arg0 harg0 arg1 harg1 arg2 harg2 arg3 harg3 arg4 harg4 arg5 harg5 arg6 harg6 arg7 harg7 arg8 harg8 X4 X5 X6 X7 X8 k).2.1 A f2 f3 = pickPieces k A := by
  unfold trip_k0_t1
  rfl
end Trip

end Cert.Proof.Re

end
-- ==== Proof.Re.Rounds.lean ====
/- The suppression loop round by round. -/
module

public import proofs.«01_k».proof.Proof.Re.Tile
public import Idealize.ShloMosaic.Lib.WritesUnit
public import Idealize.ShloMosaic.Lib.ValueIdxCore
public import Idealize.ShloMosaic.Lib.Pipeline.Value
public import Idealize.ShloMosaic.Lib.VecWindow
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Re

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rounds of the suppression loop

A round as a function of the lanes' bests and the scores it starts from, and the reading of the buffers the loop
leaves by the state the rounds reach. -/

open Idealize.ShloMosaic.ValueIdx

/-- The loop's state between rounds: the lanes' bests and the scores. -/
abbrev Round (F : FTy → Type) : Type := Lanes F × FVec F S80x5120 .f32

/-- The lane an anchor lies in. -/
abbrev laneOf (j : S80x5120.Idx) : S80x128.Idx := ix2 (j 0) ⟨(j 1).val % 128, Nat.mod_lt _ (by decide)⟩

/-- A chunk's scores after a round. -/
def roundChunk (x0 y0 x1 y1 ar : FVec F S80x5120 .f32) (S : Round F) (n : ℕ) : FVec F S80x128 .f32 :=
  struck (rowX0 S.1) (rowY0 S.1) (rowX1 S.1) (rowY1 S.1) (rowArea S.1)
    (chunkVec x0 n) (chunkVec y0 n) (chunkVec x1 n) (chunkVec y1 n) (chunkVec ar n) (chunkVec S.2 n)

/-- One round. -/
def round (x0 y0 x1 y1 ar : FVec F S80x5120 .f32) (S : Round F) : Round F :=
  (bestUpTo (roundChunk x0 y0 x1 y1 ar S) (chunkVec x0) (chunkVec y0) (chunkVec x1) (chunkVec y1) 39,
    fun j => roundChunk x0 y0 x1 y1 ar S ((j 1).val / 128) (laneOf j))

/-- The state after `n` rounds. -/
def rounds (x0 y0 x1 y1 ar : FVec F S80x5120 .f32) (S : Round F) : ℕ → Round F
  | 0 => S
  | n + 1 => round x0 y0 x1 y1 ar (rounds x0 y0 x1 y1 ar S n)

/-- A round's five rows of the output: the pick's score and box. -/
def pickRow (A : Lanes F) : Fin 5 → FVec F S1x1x80 .f32
  | 0 => k0_pay407 (pickScore A) (k0_pay14 (pickScore A))
  | 1 => k0_pay408 (pickX0 A) (k0_pay14 (pickScore A))
  | 2 => k0_pay409 (pickY0 A) (k0_pay14 (pickScore A))
  | 3 => k0_pay410 (pickX1 A) (k0_pay14 (pickScore A))
  | 4 => k0_pay4 (k0_pay406 (k0_pay14 (pickScore A))) (k0_pay411 (pickY1 A)) (Scalar.ofBits .f32 0x00000000#32)

/-- The output: round `j 1`'s pick. -/
def picksOut (x0 y0 x1 y1 ar : FVec F S80x5120 .f32) (S : Round F) : Vec F S5x100x80 .f32 := fun j =>
  pickRow (rounds x0 y0 x1 y1 ar S (j 1).val).1 (j 0) (ix3 0 0 (j 2))

/-- A chunk of a buffer is the chunk of what the buffer reads. -/
theorem chunkOf_eq (a : Memref sig .tc .vmem S80x5120 .f32) (X : BufTy.Contents (Elt F) a.view.ty) :
    chunkOf a X = chunkVec (a.view.read (Elt F) X) := by
  funext n j
  show a.view.read (Elt F) X _ = a.view.read (Elt F) X _
  congr 1
  funext d
  refine Fin.ext ?_
  fin_cases d
  · show 0 + 1 * (j 0).val = 0 + (j 0).val
    omega
  · show 128 * (n % 40) + 1 * (j 1).val = 128 * (n % 40) + (j 1).val
    omega

/-- The chunk stores before `n`, read back: an anchor of a chunk before `n` holds its new score. -/
theorem read_chunkPieces (a : Memref sig .tc .vmem S80x5120 .f32) (f : BufTy.Contents (Elt F) a.view.ty)
    (s : ℕ → FVec F S80x128 .f32) (y : S80x5120.Idx) : ∀ n, n ≤ 40 →
    a.view.read (Elt F) (a.view.writes (Elt F) f (chunkPieces s n)) y
      = if (y 1).val / 128 < n then s ((y 1).val / 128) (laneOf y) else a.view.read (Elt F) f y
  | 0, _ => by rw [if_neg (Nat.not_lt_zero _)]; rfl
  | n + 1, hn => by
    have hmod : n % 40 = n := Nat.mod_eq_of_lt (by omega)
    by_cases h : (y 1).val / 128 = n
    · rw [if_pos (by omega), chunkPieces]
      rw [View.read_writes_cons_unit_of_mem a.view f (off' := ![0, 128 * (n % 40)]) (chunk_inb n) _ _ y (laneOf y) rfl ?_]
      · rw [shapeCast_self, h]
      · intro d
        fin_cases d
        · show (y 0).val = 0 + (y 0).val
          omega
        · show (y 1).val = 128 * (n % 40) + (y 1).val % 128
          omega
    · rw [chunkPieces, View.read_writes_cons_unit_of_not_mem a.view f (off' := ![0, 128 * (n % 40)]) (chunk_inb n) _ _ y rfl 1 ?_,
        read_chunkPieces a f s y n (by omega)]
      · by_cases h' : (y 1).val / 128 < n
        · rw [if_pos h', if_pos (by omega)]
        · rw [if_neg h', if_neg (by omega)]
      · show (y 1).val < 128 * (n % 40) ∨ 128 * (n % 40) + 128 ≤ (y 1).val
        omega

/-- A round's stores in the output, read back: its own row holds its pick, the others what they held. -/
theorem read_pickPieces (a : Memref sig .tc .vmem S5x100x80 .f32) (f : BufTy.Contents (Elt F) a.view.ty)
    (k : Fin k0_t1_loop.trips) (A : Lanes F) (L : List (View.Piece (Elt F) S5x100x80 .f32)) (y : S5x100x80.Idx) :
    a.view.read (Elt F) (a.view.writes (Elt F) f (pickPieces k A ++ L)) y
      = if (y 1).val = k.val then pickRow A (y 0) (ix3 0 0 (y 2)) else a.view.read (Elt F) (a.view.writes (Elt F) f L) y := by
  have key : ∀ (off : Fin 3 → ℕ) (inb : ∀ d, off d + (![1, 1, 80] : Fin 3 → ℕ) d ≤ S5x100x80.size d) (w : FVec F S1x1x80 .f32)
      (L' : List (View.Piece (Elt F) S5x100x80 .f32)) (i : ℕ) (hoff : off = ![i, k.val, 0]),
      a.view.read (Elt F) (a.view.writes (Elt F) f (⟨Rect.unit off ![1, 1, 80] inb, w⟩ :: L')) y
        = if (y 0).val = i ∧ (y 1).val = k.val then w (ix3 0 0 (y 2)) else a.view.read (Elt F) (a.view.writes (Elt F) f L') y := by
    intro off inb w L' i hoff
    by_cases h : (y 0).val = i ∧ (y 1).val = k.val
    · rw [if_pos h, View.read_writes_cons_unit_of_mem a.view f inb w L' y (ix3 0 0 (y 2)) hoff]
      intro d
      fin_cases d
      · show (y 0).val = i + 0
        omega
      · show (y 1).val = k.val + 0
        omega
      · show (y 2).val = 0 + (y 2).val
        omega
    · rw [if_neg h]
      by_cases h0 : (y 0).val = i
      · refine View.read_writes_cons_unit_of_not_mem a.view f inb w L' y hoff 1 ?_
        show (y 1).val < k.val ∨ k.val + 1 ≤ (y 1).val
        omega
      · refine View.read_writes_cons_unit_of_not_mem a.view f inb w L' y hoff 0 ?_
        show (y 0).val < i ∨ i + 1 ≤ (y 0).val
        omega
  unfold pickPieces
  simp only [List.cons_append, List.nil_append]
  rw [key _ _ _ _ 4 (k0_off5_eq k), key _ _ _ _ 3 (k0_off4_eq k), key _ _ _ _ 2 (k0_off3_eq k), key _ _ _ _ 1 (k0_off2_eq k),
    key _ _ _ _ 0 (k0_off1_eq k)]
  by_cases h : (y 1).val = k.val
  · have h5 : (y 0).val < 5 := (y 0).isLt
    have e : ∀ i : ℕ, ((y 0).val = i ∧ (y 1).val = k.val) = ((y 0).val = i) := fun i => by rw [eq_true h, and_true]
    simp only [e, if_pos h]
    generalize y 0 = i at *
    change Fin 5 at i
    fin_cases i <;> rfl
  · have e : ∀ i : ℕ, ((y 0).val = i ∧ (y 1).val = k.val) = False := fun i => by rw [eq_false h, and_false]
    simp only [e, if_neg h, if_false]

section Loop
variable (c : Dev nD) (arg0 : Memref sig .tc .vmem S80x5120 .f32) (harg0 : arg0.IsWhole) (arg1 : Memref sig .tc .vmem S12x4x5120 .f32) (harg1 : arg1.IsWhole) (arg2 : Memref sig .tc .vmem S5x100x80 .f32) (harg2 : arg2.IsWhole) (arg3 : Memref sig .tc .vmem S80x5120 .f32) (harg3 : arg3.IsWhole) (arg4 : Memref sig .tc .vmem S80x5120 .f32) (harg4 : arg4.IsWhole) (arg5 : Memref sig .tc .vmem S80x5120 .f32) (harg5 : arg5.IsWhole) (arg6 : Memref sig .tc .vmem S80x5120 .f32) (harg6 : arg6.IsWhole) (arg7 : Memref sig .tc .vmem S80x5120 .f32) (harg7 : arg7.IsWhole) (arg8 : Memref sig .tc .vmem S80x5120 .f32) (harg8 : arg8.IsWhole)

/-- What the loop's buffers read before round `k`: the state after `k` rounds, and the picks of the rounds before. -/
theorem loop_state (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty)
    (G2 : BufTy.Contents (Elt F) arg2.view.ty) (G3 : BufTy.Contents (Elt F) arg3.view.ty) (A : Lanes F) :
    ∀ k, k ≤ k0_t1_loop.trips →
    let st := st_k0_t1 (F := F) Variants.none c none arg0 harg0 arg1 harg1 arg2 harg2 arg3 harg3 arg4 harg4 arg5 harg5 arg6 harg6 arg7 harg7 arg8 harg8 X4 X5 X6 X7 X8 G2 G3 A k
    let S := rounds (arg4.view.read (Elt F) X4) (arg5.view.read (Elt F) X5) (arg6.view.read (Elt F) X6) (arg7.view.read (Elt F) X7) (arg8.view.read (Elt F) X8) (A, arg3.view.read (Elt F) G3)
    st.1 = (S k).1 ∧ arg3.view.read (Elt F) (arg3.view.writes (Elt F) G3 st.2.2) = (S k).2
      ∧ ∀ y : S5x100x80.Idx, (y 1).val < k → arg2.view.read (Elt F) (arg2.view.writes (Elt F) G2 st.2.1) y = pickRow (S (y 1).val).1 (y 0) (ix3 0 0 (y 2)) := by
  intro k
  induction k with
  | zero => exact fun _ => ⟨rfl, rfl, fun y hy => absurd hy (Nat.not_lt_zero _)⟩
  | succ k ih =>
    intro hk
    obtain ⟨ih1, ih2, ih3⟩ := ih (by omega)
    have hs := st_k0_t1_succ (F := F) Variants.none c none arg0 harg0 arg1 harg1 arg2 harg2 arg3 harg3 arg4 harg4 arg5 harg5 arg6 harg6 arg7 harg7 arg8 harg8 X4 X5 X6 X7 X8 G2 G3 A ⟨k, hk⟩
    intro st S
    change st_k0_t1 (F := F) Variants.none c none arg0 harg0 arg1 harg1 arg2 harg2 arg3 harg3 arg4 harg4 arg5 harg5 arg6 harg6 arg7 harg7 arg8 harg8 X4 X5 X6 X7 X8 G2 G3 A (k + 1) = _ at hs
    have hst : st = _ := hs
    clear_value st
    subst hst
    unfold tripR_k0_t1 tripL_k0_t1
    dsimp only
    rw [trip_best, trip_scores, trip_picks]
    generalize st_k0_t1 (F := F) Variants.none c none arg0 harg0 arg1 harg1 arg2 harg2 arg3 harg3 arg4 harg4 arg5 harg5 arg6 harg6 arg7 harg7 arg8 harg8 X4 X5 X6 X7 X8 G2 G3 A k = st at *
    have hchunk : struckChunk arg3 arg4 arg5 arg6 arg7 arg8 X4 X5 X6 X7 X8 st.1 (arg3.view.writes (Elt F) G3 st.2.2)
        = roundChunk (arg4.view.read (Elt F) X4) (arg5.view.read (Elt F) X5) (arg6.view.read (Elt F) X6) (arg7.view.read (Elt F) X7) (arg8.view.read (Elt F) X8) (S k) := by
      funext n
      unfold struckChunk roundChunk
      rw [chunkOf_eq, chunkOf_eq, chunkOf_eq, chunkOf_eq, chunkOf_eq, chunkOf_eq, ih1, ih2]
    rw [hchunk]
    refine ⟨?_, ?_, ?_⟩
    · rw [chunkOf_eq, chunkOf_eq, chunkOf_eq, chunkOf_eq]
      rfl
    · funext y
      have h := (y 1).isLt
      change (y 1).val < 5120 at h
      rw [View.writes_append, read_chunkPieces _ _ _ _ 40 (le_refl _), if_pos (by omega)]
      rfl
    · intro y hy
      rw [read_pickPieces, ih1]
      by_cases h : (y 1).val = k
      · rw [if_pos h]
        show _ = pickRow (S (y 1).val).1 _ _
        rw [h]
      · rw [if_neg h]
        exact ih3 y (by omega)

end Loop

end Cert.Proof.Re

end
-- ==== Proof.Re.Nms.lean ====
/- Region 0 of @main, the suppression kernel: its body run once, its proof data and its body obligation. -/
module

public import proofs.«01_k».proof.Proof.Re.Rounds
public import Idealize.ShloMosaic.Lib.WritesUnit
public import Idealize.ShloMosaic.Lib.ValueIdxCore
public import Idealize.ShloMosaic.Lib.Pipeline.Value
public import Idealize.ShloMosaic.Lib.VecWindow
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Re

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The suppression kernel's body -/

section Body
variable (c : Dev nD) (E : Set ℕ) (arg0 : Memref sig .tc .vmem S80x5120 .f32) (harg0 : arg0.IsWhole) (arg1 : Memref sig .tc .vmem S12x4x5120 .f32) (harg1 : arg1.IsWhole) (arg2 : Memref sig .tc .vmem S5x100x80 .f32) (harg2 : arg2.IsWhole) (arg3 : Memref sig .tc .vmem S80x5120 .f32) (harg3 : arg3.IsWhole) (arg4 : Memref sig .tc .vmem S80x5120 .f32) (harg4 : arg4.IsWhole) (arg5 : Memref sig .tc .vmem S80x5120 .f32) (harg5 : arg5.IsWhole) (arg6 : Memref sig .tc .vmem S80x5120 .f32) (harg6 : arg6.IsWhole) (arg7 : Memref sig .tc .vmem S80x5120 .f32) (harg7 : arg7.IsWhole) (arg8 : Memref sig .tc .vmem S80x5120 .f32) (harg8 : arg8.IsWhole)

set_option maxHeartbeats 1000000 in
/-- The loop, from any scratch contents: it leaves the picks of its rounds in the output. -/
theorem loop_run (x0 y0 x1 y1 ar s : Vec F S80x5120 .f32) (A : Lanes F) (K : PUnit → sProp 𝕄) :
    iprop((∃ d, owns (c : Thread nD τ) arg2 fullShare d) ∗ owns (c : Thread nD τ) arg3 fullShare s ∗ owns (c : Thread nD τ) arg4 fullShare x0 ∗ owns (c : Thread nD τ) arg5 fullShare y0 ∗ owns (c : Thread nD τ) arg6 fullShare x1 ∗ owns (c : Thread nD τ) arg7 fullShare y1 ∗ owns (c : Thread nD τ) arg8 fullShare ar
        ∗ (iprop(owns (c : Thread nD τ) arg2 fullShare (picksOut x0 y0 x1 y1 ar (A, s)) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (loopRest arg0 harg0 arg1 harg1 arg2 harg2 arg3 harg3 arg4 harg4 arg5 harg5 arg6 harg6 arg7 harg7 arg8 harg8 A) K := by
  unfold loopRest owns
  iintro ⟨⟨%d2, %f2, -, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf3 hf4 hf5 hf6 hf7 hf8
  sl_exec
  sl_step
  iapply Hk
  isplitl [H2]
  · iexists _; isplitr
    swap; · iexact H2
    ipureintro
    funext y
    exact (loop_state c arg0 harg0 arg1 harg1 arg2 harg2 arg3 harg3 arg4 harg4 arg5 harg5 arg6 harg6 arg7 harg7 arg8 harg8 f4 f5 f6 f7 f8 f2 f3 A _ (le_refl _)).2.2 y (show (y 1).val < 100 from (y 1).isLt)
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

/-- The twelve planes of the kernel's box operand: offsets, anchors and variances. -/
def plane (x : Vec F S12x4x5120 .f32) : Fin 12 → FVec F S4x5120 .f32
  | 0 => k0_pay412 (View.ld x (Rect.unit (s := S12x4x5120) ![0, 0, 0] S1x4x5120.size inb_S12x4x5120_S1x4x5120_0_0_0))
  | 1 => k0_pay413 (View.ld x (Rect.unit (s := S12x4x5120) ![1, 0, 0] S1x4x5120.size inb_S12x4x5120_S1x4x5120_1_0_0))
  | 2 => k0_pay414 (View.ld x (Rect.unit (s := S12x4x5120) ![2, 0, 0] S1x4x5120.size inb_S12x4x5120_S1x4x5120_2_0_0))
  | 3 => k0_pay415 (View.ld x (Rect.unit (s := S12x4x5120) ![3, 0, 0] S1x4x5120.size inb_S12x4x5120_S1x4x5120_3_0_0))
  | 4 => k0_pay416 (View.ld x (Rect.unit (s := S12x4x5120) ![4, 0, 0] S1x4x5120.size inb_S12x4x5120_S1x4x5120_4_0_0))
  | 5 => k0_pay417 (View.ld x (Rect.unit (s := S12x4x5120) ![5, 0, 0] S1x4x5120.size inb_S12x4x5120_S1x4x5120_5_0_0))
  | 6 => k0_pay418 (View.ld x (Rect.unit (s := S12x4x5120) ![6, 0, 0] S1x4x5120.size inb_S12x4x5120_S1x4x5120_6_0_0))
  | 7 => k0_pay419 (View.ld x (Rect.unit (s := S12x4x5120) ![7, 0, 0] S1x4x5120.size inb_S12x4x5120_S1x4x5120_7_0_0))
  | 8 => k0_pay420 (View.ld x (Rect.unit (s := S12x4x5120) ![8, 0, 0] S1x4x5120.size inb_S12x4x5120_S1x4x5120_8_0_0))
  | 9 => k0_pay421 (View.ld x (Rect.unit (s := S12x4x5120) ![9, 0, 0] S1x4x5120.size inb_S12x4x5120_S1x4x5120_9_0_0))
  | 10 => k0_pay422 (View.ld x (Rect.unit (s := S12x4x5120) ![10, 0, 0] S1x4x5120.size inb_S12x4x5120_S1x4x5120_10_0_0))
  | 11 => k0_pay423 (View.ld x (Rect.unit (s := S12x4x5120) ![11, 0, 0] S1x4x5120.size inb_S12x4x5120_S1x4x5120_11_0_0))

/-- The boxes' corners and areas, a row per batch and class, -/
def boxX0 (x : Vec F S12x4x5120 .f32) : FVec F S80x5120 .f32 := k0_pay428 (plane x 0) (plane x 2) (plane x 4) (plane x 6) (plane x 8) (plane x 10)
def boxY0 (x : Vec F S12x4x5120 .f32) : FVec F S80x5120 .f32 := k0_pay429 (plane x 1) (plane x 3) (plane x 5) (plane x 7) (plane x 9) (plane x 11)
def boxX1 (x : Vec F S12x4x5120 .f32) : FVec F S80x5120 .f32 := k0_pay430 (plane x 0) (plane x 2) (plane x 4) (plane x 6) (plane x 8) (plane x 10)
def boxY1 (x : Vec F S12x4x5120 .f32) : FVec F S80x5120 .f32 := k0_pay431 (plane x 1) (plane x 3) (plane x 5) (plane x 7) (plane x 9) (plane x 11)
def boxArea (x : Vec F S12x4x5120 .f32) : FVec F S80x5120 .f32 := k0_pay436 (boxX0 x) (boxY0 x) (boxX1 x) (boxY1 x)
/-- and the scores, the low ones struck out. -/
def highScores (s : Vec F S80x5120 .f32) : FVec F S80x5120 .f32 := k0_pay437 s

/-- What the body leaves in the output: the picks of its hundred rounds. -/
def nmsOut (s : Vec F S80x5120 .f32) (x : Vec F S12x4x5120 .f32) : Vec F S5x100x80 .f32 :=
  picksOut (boxX0 x) (boxY0 x) (boxX1 x) (boxY1 x) (boxArea x)
    (firstBest (highScores s) (boxX0 x) (boxY0 x) (boxX1 x) (boxY1 x), highScores s)

/-- A postcondition at one value is that at an equal one. -/
theorem post_eq {α : Type} (K : α → sProp 𝕄) (A : α) {B : α} : iprop(⌜A = B⌝ ∗ K A) ⊢ K B := by
  iintro ⟨%h, H⟩
  subst h
  iexact H

set_option maxHeartbeats 1000000 in
/-- Before the loop: the scratch ends at the struck scores, the boxes' corners and their areas. -/
theorem before_run (x0 : Vec F S80x5120 .f32) (x1 : Vec F S12x4x5120 .f32) (K : Lanes F → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ (∃ d, owns (c : Thread nD τ) arg2 fullShare d) ∗ owns (c : Thread nD τ) arg3 fullShare (highScores x0) ∗ owns (c : Thread nD τ) arg4 fullShare (boxX0 x1) ∗ owns (c : Thread nD τ) arg5 fullShare (boxY0 x1) ∗ owns (c : Thread nD τ) arg6 fullShare (boxX1 x1) ∗ owns (c : Thread nD τ) arg7 fullShare (boxY1 x1) ∗ owns (c : Thread nD τ) arg8 fullShare (boxArea x1)) -∗ K (firstBest (highScores x0) (boxX0 x1) (boxY0 x1) (boxX1 x1) (boxY1 x1))))
      ⊢ wp frame (wpE (defs₀ (F := F)) Variants.none c none) E (beforeLoop arg0 harg0 arg1 harg1 arg2 harg2 arg3 harg3 arg4 harg4 arg5 harg5 arg6 harg6 arg7 harg7 arg8 harg8) K := by
  unfold beforeLoop fillScratch owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  subst hf0 hf1
  have hs : k0_pay437 (View.readAt (Elt F) arg0.view (Rect.unit (s := S80x5120) ![0, 0] S80x5120.size inb_S80x5120_S80x5120_0_0).toLoadRect f0) = highScores (arg0.view.read (Elt F) f0) := congrArg k0_pay437 (View.readAt_full _ _ _)
  sl_exec
  sl_step
  iapply (post_eq K (firstBest (highScores (arg0.view.read (Elt F) f0)) (boxX0 (arg1.view.read (Elt F) f1)) (boxY0 (arg1.view.read (Elt F) f1)) (boxX1 (arg1.view.read (Elt F) f1)) (boxY1 (arg1.view.read (Elt F) f1))))
  isplitr
  · ipureintro; sl_unfold_words; rw [hs]; rfl
  iapply Hk
  isplitl [H0]
  · iexists f0; isplitr; · ipureintro; rfl
    iexact H0
  isplitl [H1]
  · iexists f1; isplitr; · ipureintro; rfl
    iexact H1
  isplitl [H2]
  · iexists _, _; isplitr; swap; · iexact H2
    ipureintro; rfl
  isplitl [H3]
  · iexists _; isplitr; swap; · iexact H3
    ipureintro; sl_unfold_words; exact (View.read_writes_full _ _ _ _ _).trans ((shapeCast_self _ _).trans hs)
  isplitl [H4]
  · iexists _; isplitr; swap; · iexact H4
    ipureintro; sl_unfold_words; exact (View.read_writes_full _ _ _ _ _).trans (shapeCast_self _ _)
  isplitl [H5]
  · iexists _; isplitr; swap; · iexact H5
    ipureintro; sl_unfold_words; exact (View.read_writes_full _ _ _ _ _).trans (shapeCast_self _ _)
  isplitl [H6]
  · iexists _; isplitr; swap; · iexact H6
    ipureintro; sl_unfold_words; exact (View.read_writes_full _ _ _ _ _).trans (shapeCast_self _ _)
  isplitl [H7]
  · iexists _; isplitr; swap; · iexact H7
    ipureintro; sl_unfold_words; exact (View.read_writes_full _ _ _ _ _).trans (shapeCast_self _ _)
  iexists _; isplitr; swap; · iexact H8
  ipureintro; sl_unfold_words; exact (View.read_writes_full _ _ _ _ _)

/-- The body on whole buffers: the inputs stay as they were, the output ends at `nmsOut` of them, the scratch anyhow. -/
theorem sound_kernel0 (x0 : Vec F S80x5120 .f32) (x1 : Vec F S12x4x5120 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare (nmsOut x0 x1) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0__nms_body arg0 harg0 arg1 harg1 arg2 harg2 arg3 harg3 arg4 harg4 arg5 harg5 arg6 harg6 arg7 harg7 arg8 harg8) K := by
  rw [nms_body_eq, nmsBody, wp_bind]
  iintro ⟨H0, H1, H2, H3, H4, H5, H6, H7, H8, Hk⟩
  iapply (before_run c E arg0 harg0 arg1 harg1 arg2 harg2 arg3 harg3 arg4 harg4 arg5 harg5 arg6 harg6 arg7 harg7 arg8 harg8 x0 x1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  iapply (loop_run c E arg0 harg0 arg1 harg1 arg2 harg2 arg3 harg3 arg4 harg4 arg5 harg5 arg6 harg6 arg7 harg7 arg8 harg8 (boxX0 x1) (boxY0 x1) (boxX1 x1) (boxY1 x1) (boxArea x1) (highScores x0) _ K)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, H6, H7, H8⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Body

section Regions
-- the buffer contents a region is entered with
variable (V : (c : Dev nD) → (b : Ref sig .tc) → Buf (Elt F) ((c : Thread nD τ).loc b))

/-- Window `w`'s block at point `t`, read off the array with the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- At every point the buffer of input 0 holds that point's block, if the arrays are `V`'s and the body leaves the block there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- At every point the buffer of input 1 holds that point's block, if the arrays are `V`'s and the body leaves the block there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The buffers that the body is given at point `t`, each a whole one. -/
abbrev ms0_0 (t : Fin cfg0.N) : Memref sig .tc .vmem S80x5120 .f32 := win0_0.stage (cfg0.slots t 0)
abbrev hs0_0 (t : Fin cfg0.N) : (ms0_0 t).IsWhole := hstage0_0 0
abbrev ms0_1 (t : Fin cfg0.N) : Memref sig .tc .vmem S12x4x5120 .f32 := win0_1.stage (cfg0.slots t 1)
abbrev hs0_1 (t : Fin cfg0.N) : (ms0_1 t).IsWhole := hstage0_1 0
abbrev ms0_2 (t : Fin cfg0.N) : Memref sig .tc .vmem S5x100x80 .f32 := win0_2.stage (cfg0.slots t 2)
abbrev hs0_2 (t : Fin cfg0.N) : (ms0_2 t).IsWhole := hstage0_2 0
/-- The scratch buffers: the scores, the four coordinates and the areas. -/
abbrev scM0_0 : Memref sig .tc .vmem S80x5120 .f32 := Memref.whole cc0_scratch0
abbrev scM0_1 : Memref sig .tc .vmem S80x5120 .f32 := Memref.whole cc0_scratch1
abbrev scM0_2 : Memref sig .tc .vmem S80x5120 .f32 := Memref.whole cc0_scratch2
abbrev scM0_3 : Memref sig .tc .vmem S80x5120 .f32 := Memref.whole cc0_scratch3
abbrev scM0_4 : Memref sig .tc .vmem S80x5120 .f32 := Memref.whole cc0_scratch4
abbrev scM0_5 : Memref sig .tc .vmem S80x5120 .f32 := Memref.whole cc0_scratch5

/-- Between points the core owns the scratch buffers, with whatever contents, and its random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f)) ∗ (∃ r, prngReg c r)) := by
  unfold Pipeline.ΦA; rw [scopedRest0_eq]; simp only [scM0_0, scM0_1, scM0_2, scM0_3, scM0_4, scM0_5, owns_whole]; try rfl

/-- What the output's staging buffer holds after the body at point `t`: the picks of the blocks read there. -/
def outsAt0 (c : Dev nD) (t : Fin cfg0.N) : Vec F S5x100x80 .f32 := nmsOut (iblk0 V c 0 t) (iblk0 V c 1 t)

/-! ## The pipeline's proof data -/

/-- The suppression call on core `c`: its arrays start with `V`, its body leaves the input blocks and puts the picks in
    the output's buffer, and no core owes another anything. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := Pipeline.ΦA spec0 c
  q _ := fullShare
  owed _ := 0

/-- The arrays start with the contents `V`. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

/-- So it is with these data: each input's buffer holds its block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: it takes the blocks and the scratch buffers, and gives them back with the picks written. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  rw [show (dat0 V c).Φ t.castSucc = Pipeline.ΦA spec0 c from rfl, PhiA0_eq]
  unfold outsAt0
  iintro ⟨⟨⟨HS0, HS1, HS2, HS3, HS4, HS5, HR6, HR7, HR8⟩, Hg⟩, Ho, ⟨%d0, H0⟩, ⟨%d1, H1⟩, ⟨%d2, H2⟩⟩
  iapply (sound_kernel0 c Set.univ _ _ _ _ _ _ _ _ _ _ _ _ _ _ _ _ _ _ (iblk0 V c 0 t) (iblk0 V c 1 t) _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, HS0, HS1, HS2, HS3, HS4, HS5⟩
  isplitl [HS0 HS1 HS2 HS3 HS4 HS5 HR6 HR7 HR8 Hg]
  · isplitl [HS0 HS1 HS2 HS3 HS4 HS5 HR6 HR7 HR8]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HR6]
      · iexact HR6
      isplitl [HR7]
      · iexact HR7
      iexact HR8
    iexact Hg
  isplitl [Ho]; · iexact Ho
  isplitl [H0]; · iexact H0
  isplitl [H1]; · iexact H1
  iexact H2

/-- The program's table of bodies holds this body. -/
theorem defs₀_row0 (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Proof.Re

end
-- ==== Proof.Re.TopK.lean ====
/- Region 1 of @main, the top-k kernel: its body run once, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Re

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip of the top-k loop, as a function of what it carries -/

/-- What the top-k loop carries: the scores still in play and the six result rows. -/
abbrev Carry (F : FTy → Type) : Type := FVec F S64x128 .f32 × FVec F S64x128 .f32 × FVec F S64x128 .f32 × FVec F S64x128 .f32 × FVec F S64x128 .f32 × FVec F S64x128 .f32 × FVec F S64x128 .f32

/-- Where each row's flat position starts, as a column of floats. -/
abbrev rowStart : FVec F S64x1 .f32 := k1_pay21 (F := F)
/-- The position of the pick within its batch. -/
def pickAt (sc : FVec F S64x128 .f32) : FVec F S64x1 .f32 := k1_pay8 k1_pay20 rowStart sc

/-- The four feature rows of the pick, spread over the lanes' selection. -/
def trip (g0 g1 g2 g3 : Vec F S1x64x128 .f32) (k : Fin k1_t1_loop.trips) : Carry F → Carry F :=
  fun (sc, o0, o1, o2, o3, o4, o5) =>
    let t : BitVec 32 := Scf.iv 0#32 1#32 k
    let v1 := k1_pay20 (F := F)
    let v21 := k1_pay21 (F := F)
    let v82 := k1_pay10 v1 v21 sc
    let v83 := k1_pay11 v1 v21 sc
    (k1_pay35 sc (k1_pay8 v1 v21 sc) (k1_pay9 v1 v21 sc) v83,
      k1_pay29 o0 t (k1_pay8 v1 v21 sc),
      k1_pay30 o1 t (k1_pay7 sc),
      k1_pay31 o2 t (k1_pay17 v83 (k1_pay12 v1 v21 (k1_pay22 g0) sc)),
      k1_pay32 o3 t (k1_pay18 (k1_pay23 g1) v83 (k1_pay13 v1 v21 sc) (k1_pay14 v1 v21 sc) (k1_pay15 v1 v21 sc)),
      k1_pay33 o4 t (k1_pay19 (k1_pay24 g2) v82 v83),
      k1_pay34 o5 t v83 (k1_pay16 (k1_pay25 g3) v82))

/-- What the loop starts from. -/
def carry0 (x0 : Vec F S64x128 .f32) : Carry F :=
  (k1_pay27 x0, k1_pay26, k1_pay26, k1_pay26, k1_pay26, k1_pay26, k1_pay26)

/-! ## The body's accesses, and what it leaves in its output -/

abbrev rIn : Rect S64x128 := Rect.unit (s := S64x128) ![0, 0] S64x128.size inb_S64x128_S64x128_0_0
abbrev rF0 : Rect S4x64x128 := Rect.unit (s := S4x64x128) ![0, 0, 0] S1x64x128.size inb_S4x64x128_S1x64x128_0_0_0
abbrev rF1 : Rect S4x64x128 := Rect.unit (s := S4x64x128) ![1, 0, 0] S1x64x128.size inb_S4x64x128_S1x64x128_1_0_0
abbrev rF2 : Rect S4x64x128 := Rect.unit (s := S4x64x128) ![2, 0, 0] S1x64x128.size inb_S4x64x128_S1x64x128_2_0_0
abbrev rF3 : Rect S4x64x128 := Rect.unit (s := S4x64x128) ![3, 0, 0] S1x64x128.size inb_S4x64x128_S1x64x128_3_0_0
abbrev rO0 : Rect S6x64x128 := Rect.unit (s := S6x64x128) ![0, 0, 0] S1x64x128.size inb_S6x64x128_S1x64x128_0_0_0
abbrev rO1 : Rect S6x64x128 := Rect.unit (s := S6x64x128) ![1, 0, 0] S1x64x128.size inb_S6x64x128_S1x64x128_1_0_0
abbrev rO2 : Rect S6x64x128 := Rect.unit (s := S6x64x128) ![2, 0, 0] S1x64x128.size inb_S6x64x128_S1x64x128_2_0_0
abbrev rO3 : Rect S6x64x128 := Rect.unit (s := S6x64x128) ![3, 0, 0] S1x64x128.size inb_S6x64x128_S1x64x128_3_0_0
abbrev rO4 : Rect S6x64x128 := Rect.unit (s := S6x64x128) ![4, 0, 0] S1x64x128.size inb_S6x64x128_S1x64x128_4_0_0
abbrev rO5 : Rect S6x64x128 := Rect.unit (s := S6x64x128) ![5, 0, 0] S1x64x128.size inb_S6x64x128_S1x64x128_5_0_0

/-- What the loop ends with, from the two input blocks. -/
def carryEnd (x0 : Vec F S64x128 .f32) (x1 : Vec F S4x64x128 .f32) : Carry F :=
  Scf.fold (trip (View.ld x1 rF0) (View.ld x1 rF1) (View.ld x1 rF2) (View.ld x1 rF3)) (carry0 (View.ld x0 rIn))

/-- The output block after the body: the loop's six result rows, one plane each (last store first). -/
def out1_2 (x0 : Vec F S64x128 .f32) (x1 : Vec F S4x64x128 .f32) : Vec F S6x64x128 .f32 :=
  View.canon [⟨rO5, k1_pay6 (carryEnd x0 x1).2.2.2.2.2.2⟩,
    ⟨rO4, k1_pay5 (carryEnd x0 x1).2.2.2.2.2.1⟩,
    ⟨rO3, k1_pay4 (carryEnd x0 x1).2.2.2.2.1⟩,
    ⟨rO2, k1_pay3 (carryEnd x0 x1).2.2.2.1⟩,
    ⟨rO1, k1_pay2 (carryEnd x0 x1).2.2.1⟩,
    ⟨rO0, k1_pay1 (carryEnd x0 x1).2.1⟩]

/-- The six planes cover the block. -/
theorem cover1_2 (p0 p1 p2 p3 p4 p5 : Vec F S1x64x128 .f32) (y : S6x64x128.Idx) :
    ∃ pc ∈ ([⟨rO5, p0⟩, ⟨rO4, p1⟩, ⟨rO3, p2⟩, ⟨rO2, p3⟩, ⟨rO1, p4⟩, ⟨rO0, p5⟩] : List (View.Piece (Elt F) S6x64x128 .f32)), y ∈ pc.1.set :=
  View.cover_of_tiled [⟨rO5, p0⟩, ⟨rO4, p1⟩, ⟨rO3, p2⟩, ⟨rO2, p3⟩, ⟨rO1, p4⟩, ⟨rO0, p5⟩] S1x64x128.size (by rfl) y

/-- The loop's body issues nothing: it returns `trip`. -/
theorem body_ret (arg0 : Memref sig .tc .vmem S64x128 .f32) (harg0 : arg0.IsWhole) (arg1 : Memref sig .tc .vmem S4x64x128 .f32) (harg1 : arg1.IsWhole) (arg2 : Memref sig .tc .vmem S6x64x128 .f32) (harg2 : arg2.IsWhole)
    (g0 g1 g2 g3 : Vec F S1x64x128 .f32) (k : Fin k1_t1_loop.trips) (acc : Carry F) :
    k1_t1_body arg0 harg0 arg1 harg1 arg2 harg2 g0 g1 g2 g3 k acc = .ret (trip g0 g1 g2 g3 k acc) := by
  obtain ⟨sc, o0, o1, o2, o3, o4, o5⟩ := acc
  unfold k1_t1_body
  rw [k1_part1_eq_skeleton, k1_part2_eq_skeleton]
  rfl

/-- So the loop returns the fold of `trip`. -/
theorem loop_ret (arg0 : Memref sig .tc .vmem S64x128 .f32) (harg0 : arg0.IsWhole) (arg1 : Memref sig .tc .vmem S4x64x128 .f32) (harg1 : arg1.IsWhole) (arg2 : Memref sig .tc .vmem S6x64x128 .f32) (harg2 : arg2.IsWhole)
    (g0 g1 g2 g3 : Vec F S1x64x128 .f32) (init : Carry F) :
    Scf.Loop.for k1_t1_loop k1_t1_ok init (k1_t1_body arg0 harg0 arg1 harg1 arg2 harg2 g0 g1 g2 g3) = .ret (Scf.fold (trip g0 g1 g2 g3) init) :=
  Scf.for_pure _ _ _ _ _ _ _ (body_ret arg0 harg0 arg1 harg1 arg2 harg2 g0 g1 g2 g3)

set_option maxHeartbeats 1000000 in
/-- The body on whole staging buffers: the inputs stay as they were, the output ends at `out1_2` of them. -/
theorem sound_kernel1 (c : Dev nD) (E : Set ℕ) (arg0 : Memref sig .tc .vmem S64x128 .f32) (harg0 : arg0.IsWhole) (arg1 : Memref sig .tc .vmem S4x64x128 .f32) (harg1 : arg1.IsWhole) (arg2 : Memref sig .tc .vmem S6x64x128 .f32) (harg2 : arg2.IsWhole)
    (x0 : Vec F S64x128 .f32) (x1 : Vec F S4x64x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__topk_body arg0 harg0 arg1 harg1 arg2 harg2) K := by
  simp only [cc1__topk_body_eq_skeleton]; unfold cc1__topk_body_skel
  simp only [k1_part3_eq_skeleton, k1_part3_skel, loop_ret]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _ _ _ _ _ _)

section Regions
-- the buffer contents a region is entered with
variable (V : (c : Dev nD) → (b : Ref sig .tc) → Buf (Elt F) ((c : Thread nD τ).loc b))

/-- Window `w`'s block at point `t`, read off the array with the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- At every point the buffer of input 0 holds that point's block, if the arrays are `V`'s and the body leaves the block there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- At every point the buffer of input 1 holds that point's block, if the arrays are `V`'s and the body leaves the block there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The pipeline's proof data -/

/-- The top-k call on core `c`: its arrays start with `V`, its body leaves the input blocks and puts `out1_2` of them in the
    output's buffer, and no core owes another anything. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The arrays start with the contents `V`. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- So it is with these data: each input's buffer holds its block. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: it takes the blocks and gives them back with the result rows written. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The program's table of bodies holds this body. -/
theorem defs₀_row1 (t : Fin cfg1.N) :
    defs₀ (F := F) .tc cfg1.body (cfg1.bodyArgs t (cfg1.slots t)) = bodyAt1 t := by
  unfold defs₀; rw [Defs.onTc_tc]

/-- What the pipeline asks of the body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Proof.Re

end
-- ==== Proof.Re.Run.lean ====
/- @main's segments from the launch to the return, and the frame. -/
module

public import proofs.«01_k».proof.Proof.Re.Nms
public import proofs.«01_k».proof.Proof.Re.TopK
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Re

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: host operations, the suppression call, host operations, the top-k call, host operations -/

/-- The argument of @main. -/
abbrev argRefs : List (Ref sig .tc) := [main_arg0]

/-! ## The three stretches of host operations: what each writes; all else keeps its contents -/

/-- Stretch 0 makes no buffer. -/
theorem hostOps0_fresh : (hostOps0 : List (HloOp τ sig (Elt F))).Forall fun op => op.fresh = ∅ := by
  simp only [List.Forall]; repeat' constructor
/-- What stretch 0 writes, in order. -/
abbrev hostOps0_W : List (Ref sig .tc) := [main_call0_v0, main_call0_c, main_call0_call0_v0, main_call0_v1, main_call0_v2, main_call0_v3, main_call0_v4, main_call0_v5]
theorem hostOps0_writes : (hostOps0 : List (HloOp τ sig (Elt F))).Forall fun op => op.writes ⊆ (hostOps0_W.map (Proc.devRef (τ := τ) .tc)).toFinset :=
  StableHlo.forall_writes_sub_of_map rfl
/-- The argument is not among it. -/
theorem hostOps0_args : ∀ a ∈ argRefs, a ∉ hostOps0_W := ListAll.forall_mem_of_all_decide (by decide +kernel)

/-- Stretch 1 makes no buffer. -/
theorem hostOps1_fresh : (hostOps1 : List (HloOp τ sig (Elt F))).Forall fun op => op.fresh = ∅ := by
  simp only [List.Forall]; repeat' constructor
/-- What stretch 1 writes, in order. -/
abbrev hostOps1_W : List (Ref sig .tc) := [main_call0_v7, main_call0_v8, main_call0_v9, main_call0_v10, main_call0_v11, main_call0_cst, main_call0_call1_v0, main_call0_v12, main_call0_v13, main_call0_c_0, main_call0_call2_v0, main_call0_v14, main_call0_v15, main_call0_v16]
theorem hostOps1_writes : (hostOps1 : List (HloOp τ sig (Elt F))).Forall fun op => op.writes ⊆ (hostOps1_W.map (Proc.devRef (τ := τ) .tc)).toFinset :=
  StableHlo.forall_writes_sub_of_map rfl
/-- The argument is not among it. -/
theorem hostOps1_args : ∀ a ∈ argRefs, a ∉ hostOps1_W := ListAll.forall_mem_of_all_decide (by decide +kernel)

/-- Stretch 2 makes no buffer. -/
theorem hostOps2_fresh : (hostOps2 : List (HloOp τ sig (Elt F))).Forall fun op => op.fresh = ∅ := by
  simp only [List.Forall]; repeat' constructor
/-- What stretch 2 writes, in order. -/
abbrev hostOps2_W : List (Ref sig .tc) := [main_call0_v18, main_v0]
theorem hostOps2_writes : (hostOps2 : List (HloOp τ sig (Elt F))).Forall fun op => op.writes ⊆ (hostOps2_W.map (Proc.devRef (τ := τ) .tc)).toFinset :=
  StableHlo.forall_writes_sub_of_map rfl
/-- The argument is not among it. -/
theorem hostOps2_args : ∀ a ∈ argRefs, a ∉ hostOps2_W := ListAll.forall_mem_of_all_decide (by decide +kernel)

/-! ## What the buffers hold between the parts of @main -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After stretch 0, where call 0 begins. -/
abbrev W1 : Dev nD → Valuation τ sig (Elt F) := fun c => StableHlo.after hostOps0 (W0 m ρ c)
/-- What stretch 0 does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, buffer by buffer. -/
abbrev V1 : (c : Dev nD) → (b : Ref sig .tc) → Buf (Elt F) ((c : Thread nD τ).loc b) := fun c b => W1 m ρ c b
/-- After call 0: its arrays as its last point leaves them, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Call 0 changes only its output. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- The argument is no output of call 0. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, buffer by buffer. -/
abbrev V2 : (c : Dev nD) → (b : Ref sig .tc) → Buf (Elt F) ((c : Thread nD τ).loc b) := fun c b => W2 m ρ c b
/-- Call 0's arrays are then what its last point leaves, and the other buffers what they were. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1, where call 1 begins. -/
abbrev W3 : Dev nD → Valuation τ sig (Elt F) := fun c => StableHlo.after hostOps1 (W2 m ρ c)
/-- What stretch 1 does not write keeps its contents. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same, buffer by buffer. -/
abbrev V3 : (c : Dev nD) → (b : Ref sig .tc) → Buf (Elt F) ((c : Thread nD τ).loc b) := fun c b => W3 m ρ c b
/-- After call 1: its arrays as its last point leaves them, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Call 1 changes only its output. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- The argument is no output of call 1. -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same, buffer by buffer. -/
abbrev V4 : (c : Dev nD) → (b : Ref sig .tc) → Buf (Elt F) ((c : Thread nD τ).loc b) := fun c b => W4 m ρ c b
/-- Call 1's arrays are then what its last point leaves, and the other buffers what they were. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After stretch 2, at the end. -/
abbrev W5 : Dev nD → Valuation τ sig (Elt F) := fun c => StableHlo.after hostOps2 (W4 m ρ c)
/-- What stretch 2 does not write keeps its contents. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The argument ends as launched -/

theorem W5_main_arg0 (c : Dev nD) : W5 m ρ c (Proc.devRef .tc main_arg0) = m ((c : Thread nD τ).loc main_arg0) :=
  W5_args m ρ c main_arg0 (by decide)

/-! ## The two calls' data, and what a core has between the parts -/

/-- The prefetched tables' admissible contents: no pipeline has a table. -/
abbrev adm : (p : Fin 2) → (pcfgs (F := F) p).Adm := fun p => (cfgs p).toPCfg_adm
/-- The two calls' data, each from what the buffers hold where it begins. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers a core has its random-number register, and owes nothing. -/
abbrev R (c : Dev nD) : sProp 𝕄 := iprop((∃ r, prngReg c r) ∗ ∃ W, owes (c : Thread nD τ) (0 : CellTallies nD τ sig Unit) W)
/-- A stretch of host operations, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Which buffers are held throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core has at the end. -/
abbrev Tₙ (c : Dev nD) : sProp 𝕄 := iprop(StableHlo.held (c : Thread nD τ) (Pipeline.ucRefs τ sig) (W5 m ρ c) ∗ ∃ r, prngReg c r)

/-! ## The calls -/

set_option backward.isDefEq.respectTransparency.types false in
/-- Call 0 takes the buffers from `W1` to `W2`: its arrays are taken out of them and put back when it ends. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 takes the buffers from `W3` to `W4`: its arrays are taken out of them and put back when it ends. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main and its launch -/

/-- The five parts of @main in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of its five parts. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters every weakly fair execution of @main terminates, nothing faulting; at its end the
    result is the last stretch's, the argument is as launched, and every semaphore counter of the machine is at zero. -/
theorem run : θ_run defs (onTc (τ := τ) (main (F := F))) ⟨m, fun _ => 0, ρ⟩ (fun r => (∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c => ⟨h c _ (mem_uc main_v0 (by decide)),
      (h c _ (mem_uc main_arg0 (by decide))).trans (W5_main_arg0 m ρ c)⟩), funext fun g => hz g (.inr (no_unscoped g.2))⟩)

/-- The argument is as launched at the end, and the counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2, h.2⟩) (run m ρ)

end Cert.Proof.Re

end
-- ==== Proof.Ref.Steps.lean ====
/- The reference's run as its step iterated. -/
module

public import proofs.«01_k».proof.Proof.Gen.ReferenceIdeal.Run
public import proofs.«01_k».proof.Proof.Gen.ReferenceIdeal.Step

@[expose] public section

noncomputable section

namespace Cert.Proof.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- What the loop's buffers hold before trip `j`: the state `s`, the trip's number, and the anchors' indices. -/
structure Held (V : Valuation τ sig (Elt F)) (s : State F) (j : ℕ) : Prop where
  scores : V (Proc.devRef .tc main_v76_3) = s.main_v76_3
  picked : V (Proc.devRef .tc main_v76_4) = s.main_v76_4
  boxes : V (Proc.devRef .tc main_v76_1) = s.main_v76_1
  number : V (Proc.devRef .tc main_v76_2) = constantI S_ 32 (BitVec.ofNat 32 j)
  anchors : V (Proc.devRef .tc main_v76_0) = Cert.ReferenceIdeal.Step.K_main_v70 (F := F)

variable {V : Valuation τ sig (Elt F)} {s : State F} {j : ℕ}

set_option maxRecDepth 8192 in
/-- A trip's scores are the step's, -/
theorem trip_scores (h : Held V s j) : step_main_v76_3 V = (step j s).main_v76_3 := by
  unfold step_main_v76_3 res_main_while0b_v136 res_main_while0b_v101 res_main_while0b_v100 res_main_while0b_v99 res_main_while0b_v97 res_main_while0b_v96 res_main_while0b_v90
  rw [h.scores, h.boxes, h.anchors]
  rfl

set_option maxRecDepth 8192 in
/-- and so are its picks. -/
theorem trip_picked (h : Held V s j) : step_main_v76_4 V = (step j s).main_v76_4 := by
  unfold step_main_v76_4 res_main_while0b_v99 res_main_while0b_v97 res_main_while0b_v96 res_main_while0b_v90
  rw [h.picked, h.scores, h.boxes, h.number, h.anchors]
  rfl

/-- The trip's number goes up by one. -/
theorem trip_number (h : Held V s j) : step_main_v76_2 V = constantI S_ 32 (BitVec.ofNat 32 (j + 1)) := by
  unfold step_main_v76_2
  rw [h.number]
  funext i
  show BitVec.ofNat 32 j + 1#32 = BitVec.ofNat 32 (j + 1)
  simp only [BitVec.ofNat_add]

/-- A trip takes what is held before it to what is held before the next one. -/
theorem held_trip (h : Held V s j) : Held (STEP V) (step j s) (j + 1) where
  scores := (STEP_main_v76_3 V).trans (trip_scores h)
  picked := (STEP_main_v76_4 V).trans (trip_picked h)
  boxes := (STEP_main_v76_1 V).trans h.boxes
  number := (STEP_main_v76_2 V).trans (trip_number h)
  anchors := (STEP_main_v76_0 V).trans h.anchors

/-- The state before trip `j`, of the argument. -/
def states (y : (⟨S4x5000x33, .f32⟩ : BufTy).Contents (Elt F)) : ℕ → State F
  | 0 => init y
  | j + 1 => step j (states y j)

/-- The reference's result, of the argument. -/
def result (y : (⟨S4x5000x33, .f32⟩ : BufTy).Contents (Elt F)) : (⟨S4x100x6, .f32⟩ : BufTy).Contents (Elt F) :=
  Cert.ReferenceIdeal.Step.R_main_v88 (states y 100)

variable (m : (ℓ : Loc nD τ sig) → Buf (Elt F) ℓ) (c : Dev nD)

set_option maxRecDepth 65536 in
set_option maxHeartbeats 400000 in
/-- The operations before the loop leave the initial state. -/
theorem held_entry : Held (entryContents preI m c) (init (m ((c.tc : Thread nD τ).loc main_arg0))) 0 := by
  constructor <;> (simp only [entryContents, afterL_cons, afterL_nil]; after_reads_simp) <;> rfl

theorem held_states : ∀ k, Held (STEP^[k] (entryContents preI m c)) (states (m ((c.tc : Thread nD τ).loc main_arg0)) k) k
  | 0 => held_entry m c
  | k + 1 => by
    rw [Function.iterate_succ_apply']
    exact held_trip (held_states k)

set_option maxRecDepth 8192 in
/-- What follows the loop reads the picks only. -/
theorem out_eq (h : Held V s j) : out_main_v88 V = Cert.ReferenceIdeal.Step.R_main_v88 s := by
  unfold out_main_v88 Cert.ReferenceIdeal.Step.R_main_v88
  rw [h.picked]

/-- The reference runs, ends with its result, and leaves its argument as it was. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v88) = result (m ((c.tc : Thread nD τ).loc main_arg0))
      ∧ r.2.mem ((c.tc : Thread nD τ).loc main_arg0) = m ((c.tc : Thread nD τ).loc main_arg0) :=
  (θ_run defs _ _).mono (fun _ h c => ⟨(h c).1.trans (out_eq (held_states m c 100)), (h c).2⟩) (Value.run m ρ)

end Cert.Proof.Ref

end
-- ==== Proof.Math.Words.lean ====
/- The numbers the two programs' literals stand for. -/
module

public import proofs.«01_k».proof.Proof.Re.Chunks
public import Idealize.ShloMosaic.Lib.ValueIdx
public import Idealize.ShloMosaic.Lib.IdealHost

@[expose] public section

noncomputable section

namespace Cert.Proof

open Idealize.ShloMosaic

/-- The confidence threshold (0.01, rounded), -/
abbrev TH : EReal := Ideal.ofBits .f32 0x3C23D70A#32
/-- the score of an anchor out of play (−1e9), -/
abbrev NEG : EReal := Ideal.ofBits .f32 0xCE6E6B28#32
/-- the overlap threshold (0.45, rounded), -/
abbrev OVER : EReal := Ideal.ofBits .f32 0x3EE66666#32
/-- the least union divided by (1e-8, rounded), -/
abbrev EPS : EReal := Ideal.ofBits .f32 0x322BCC77#32
/-- and the position past every other (1e9). -/
abbrev BIG : EReal := Ideal.ofBits .f32 0x4E6E6B28#32

theorem th_eq : TH = ((10737418 / 2 ^ 30 : ℝ) : EReal) := by
  show Ideal.ofBits .f32 0x3C23D70A#32 = _
  simp [Ideal.ofBits, Ideal.ieee, -EReal.coe_mul, -EReal.coe_neg] <;> norm_num

theorem neg_eq : NEG = ((-1000000000 : ℝ) : EReal) := by
  show Ideal.ofBits .f32 0xCE6E6B28#32 = _
  simp [Ideal.ofBits, Ideal.ieee, -EReal.coe_mul, -EReal.coe_neg] <;> norm_num

theorem big_eq : BIG = ((1000000000 : ℝ) : EReal) := by
  show Ideal.ofBits .f32 0x4E6E6B28#32 = _
  simp [Ideal.ofBits, Ideal.ieee, -EReal.coe_mul, -EReal.coe_neg] <;> norm_num

theorem w128_eq : Ideal.ofBits .f32 0x43000000#32 = ((128 : ℝ) : EReal) := by
  simp [Ideal.ofBits, Ideal.ieee, -EReal.coe_mul, -EReal.coe_neg] <;> norm_num

theorem w128inv_eq : Ideal.ofBits .f32 0x3C000000#32 = ((1 / 128 : ℝ) : EReal) := by
  simp [Ideal.ofBits, Ideal.ieee, -EReal.coe_mul, -EReal.coe_neg] <;> norm_num

theorem whalf_eq : Ideal.ofBits .f32 0x3F000000#32 = ((1 / 2 : ℝ) : EReal) := by
  simp [Ideal.ofBits, Ideal.ieee, -EReal.coe_mul, -EReal.coe_neg] <;> norm_num

theorem wtop_eq : Ideal.ofBits .f32 0x7F800000#32 = ⊤ := by
  simp [Ideal.ofBits, Ideal.ieee]

theorem wbot_eq : Ideal.ofBits .f32 0xFF800000#32 = ⊥ := by
  simp [Ideal.ofBits, Ideal.ieee]

/-- A chunk's number. -/
theorem chunkWord_eq (n : ℕ) (h : n < 40) : Ideal.ofBits .f32 (Cert.Proof.Re.chunkWord n) = ((n : ℝ) : EReal) := by
  interval_cases n <;> (simp [Ideal.ofBits, Ideal.ieee, Cert.Proof.Re.chunkWord]; try norm_cast; try norm_num)

theorem neg_lt_zero : NEG < 0 := by
  rw [neg_eq]
  exact_mod_cast (by norm_num : (-1000000000 : ℝ) < 0)

theorem zero_lt_th : 0 < TH := by
  rw [th_eq]
  exact_mod_cast (by norm_num : (0 : ℝ) < 10737418 / 2 ^ 30)

theorem neg_lt_th : NEG < TH := neg_lt_zero.trans zero_lt_th

end Cert.Proof

end
-- ==== Proof.Math.Pick.lean ====
/- The first greatest of a list, the ways the two programs look for it, and positions as floats. -/
module

public import proofs.«01_k».proof.Proof.Math.Words

@[expose] public section

noncomputable section

namespace Cert.Proof

open Idealize.ShloMosaic

/-- `i` is the first place at which `f` is greatest. -/
structure First {n : ℕ} (f : Fin n → EReal) (i : Fin n) : Prop where
  top : ∀ j, f j ≤ f i
  before : ∀ j, j < i → f j < f i

theorem First.unique {n : ℕ} {f : Fin n → EReal} {i i' : Fin n} (h : First f i) (h' : First f i') : i = i' := by
  rcases lt_trichotomy i i' with hlt | heq | hgt
  · exact absurd (h.top i') (not_le.mpr (h'.before i hlt))
  · exact heq
  · exact absurd (h'.top i) (not_le.mpr (h.before i' hgt))

/-- The maximum over a finite index is attained, -/
theorem fold_max {ι : Type} [Fintype ι] [Nonempty ι] (f : ι → EReal) :
    ∃ i, (Finset.univ : Finset ι).fold max ⊥ f = f i ∧ ∀ j, f j ≤ f i := by
  obtain ⟨i, hi⟩ := Finite.exists_max f
  refine ⟨i, ?_, hi⟩
  have : (Finset.univ : Finset ι).sup f = f i := le_antisymm (Finset.sup_le fun j _ => hi j) (Finset.le_sup (Finset.mem_univ i))
  exact this

/-- and so is the minimum. -/
theorem fold_min {ι : Type} [Fintype ι] [Nonempty ι] (f : ι → EReal) :
    ∃ i, (Finset.univ : Finset ι).fold min ⊤ f = f i ∧ ∀ j, f i ≤ f j := by
  obtain ⟨i, hi⟩ := Finite.exists_min f
  refine ⟨i, ?_, hi⟩
  have : (Finset.univ : Finset ι).inf f = f i := le_antisymm (Finset.inf_le (Finset.mem_univ i)) (Finset.le_inf fun j _ => hi j)
  exact this

/-- The maximum, given an index that attains it. -/
theorem fold_max_eq {ι : Type} [Fintype ι] (f : ι → EReal) (i : ι) (h : ∀ j, f j ≤ f i) :
    (Finset.univ : Finset ι).fold max ⊥ f = f i := by
  haveI : Nonempty ι := ⟨i⟩
  obtain ⟨k, hk, hk'⟩ := fold_max f
  rw [hk]
  exact le_antisymm (h k) (hk' i)

/-- A natural as a float. -/
abbrev nat (n : ℕ) : EReal := ((n : ℝ) : EReal)

theorem nat_le {a b : ℕ} : nat a ≤ nat b ↔ a ≤ b := by
  unfold nat
  rw [EReal.coe_le_coe_iff, Nat.cast_le]

theorem nat_inj {a b : ℕ} : nat a = nat b ↔ a = b := by
  unfold nat
  rw [EReal.coe_eq_coe_iff, Nat.cast_inj]

theorem nat_lt_big {a : ℕ} (h : a < 1000000000) : nat a < BIG := by
  rw [big_eq, EReal.coe_lt_coe_iff]
  exact_mod_cast h

/-- The least position among the indices that satisfy `p`, the others standing past every position. -/
theorem min_position {ι : Type} [Fintype ι] (p : ι → Prop) [DecidablePred p] (pos : ι → ℕ) (hpos : ∀ i, pos i < 1000000000)
    (hp : ∃ i, p i) :
    ∃ i, p i ∧ (Finset.univ : Finset ι).fold min ⊤ (fun i => if p i then nat (pos i) else BIG) = nat (pos i)
      ∧ ∀ j, p j → pos i ≤ pos j := by
  obtain ⟨k, hk⟩ := hp
  haveI : Nonempty ι := ⟨k⟩
  obtain ⟨i, hi, hle⟩ := fold_min (fun i => if p i then nat (pos i) else BIG)
  have hpi : p i := by
    by_contra hn
    have := hle k
    simp only [if_neg hn, if_pos hk] at this
    exact absurd this (not_le.mpr (nat_lt_big (hpos k)))
  refine ⟨i, hpi, ?_, fun j hj => ?_⟩
  · rw [hi]
    simp only [if_pos hpi]
  · have := hle j
    simp only [if_pos hpi, if_pos hj] at this
    exact nat_le.mp this

/-- The chunk a position lies in, times the chunk's length, -/
theorem base_of (a : ℕ) : Ideal.liftRound Int.floor (nat a * Ideal.ofBits .f32 0x3C000000#32) * Ideal.ofBits .f32 0x43000000#32
    = nat (a / 128 * 128) := by
  rw [w128inv_eq, w128_eq, ← EReal.coe_mul]
  have h : Ideal.liftRound Int.floor (((a : ℝ) * (1 / 128) : ℝ) : EReal) = (((a / 128 : ℕ) : ℝ) : EReal) := by
    show ((⌊(a : ℝ) * (1 / 128)⌋ : ℝ) : EReal) = _
    have : ⌊(a : ℝ) * (1 / 128)⌋ = ((a / 128 : ℕ) : ℤ) := by
      rw [Int.floor_eq_iff]
      have h1 : a = 128 * (a / 128) + a % 128 := (Nat.div_add_mod a 128).symm
      have h2 : a % 128 < 128 := Nat.mod_lt _ (by norm_num)
      generalize a / 128 = q at *
      generalize a % 128 = r at *
      subst h1
      have h2' : (r : ℝ) < 128 := by exact_mod_cast h2
      have h3 : (0 : ℝ) ≤ (r : ℝ) := Nat.cast_nonneg _
      push_cast
      constructor <;> linarith
    rw [this]
    norm_cast
  rw [h, ← EReal.coe_mul]
  norm_cast

/-- and the lane it lies in, as a float -/
theorem off_of (a : ℕ) : nat a - nat (a / 128 * 128) = nat (a % 128) := by
  show ((a : ℝ) : EReal) - _ = _
  rw [← EReal.coe_sub]
  have h1 : a = a / 128 * 128 + a % 128 := (Nat.div_add_mod' a 128).symm
  congr 1
  have h1' : (a : ℝ) = ((a / 128 * 128 : ℕ) : ℝ) + ((a % 128 : ℕ) : ℝ) := by exact_mod_cast h1
  linarith

/-- and as an integer. -/
theorem int_of (l : ℕ) (h : l < 128) : Ideal.fptosi 32 (nat l) = BitVec.ofNat 32 l := by
  show BitVec.ofInt 32 (max _ (min _ (if (0 : ℝ) ≤ (l : ℝ) then ⌊(l : ℝ)⌋ else ⌈(l : ℝ)⌉))) = _
  rw [if_pos (Nat.cast_nonneg l), Int.floor_natCast]
  have : max (-(2 ^ (32 - 1) : ℕ) : ℤ) (min ((2 ^ (32 - 1) : ℕ) - 1) (l : ℤ)) = (l : ℤ) := by
    norm_num
    omega
  rw [this]
  exact BitVec.ofInt_natCast ..

/-- The class of a position in the list of 2000: its block of 100, counted from one. -/
theorem class_of (a : ℕ) (h : a < 2000) :
    Ideal.liftRound Int.floor ((nat a + Ideal.ofBits .f32 0x3F000000#32) * Ideal.ofBits .f32 0x3C23D70A#32) + 1 = nat (a / 100 + 1) := by
  rw [whalf_eq, show Ideal.ofBits .f32 0x3C23D70A#32 = _ from th_eq, ← EReal.coe_add, ← EReal.coe_mul]
  have h0 : ⌊((a : ℝ) + 1 / 2) * (10737418 / 2 ^ 30)⌋ = ((a / 100 : ℕ) : ℤ) := by
    rw [Int.floor_eq_iff]
    have h1 : a = 100 * (a / 100) + a % 100 := (Nat.div_add_mod a 100).symm
    have h2 : a % 100 ≤ 99 := by omega
    have h4 : a / 100 ≤ 19 := by omega
    generalize a / 100 = q at *
    generalize a % 100 = r at *
    subst h1
    have h2' : (r : ℝ) ≤ 99 := by exact_mod_cast h2
    have h3 : (0 : ℝ) ≤ (r : ℝ) := Nat.cast_nonneg _
    have h4' : (q : ℝ) ≤ 19 := by exact_mod_cast h4
    have h5 : (0 : ℝ) ≤ (q : ℝ) := Nat.cast_nonneg _
    push_cast
    constructor <;> norm_num <;> linarith
  show ((⌊((a : ℝ) + 1 / 2) * (10737418 / 2 ^ 30)⌋ : ℝ) : EReal) + 1 = _
  rw [h0]
  norm_cast

end Cert.Proof

end
-- ==== Proof.Math.Nms.lean ====
/- Suppression in plain mathematics: the reference's step and the kernel's, and why they agree. -/
module

public import proofs.«01_k».proof.Proof.Math.Pick

@[expose] public section

noncomputable section

namespace Cert.Proof

open Idealize.ShloMosaic

/-- A box: xmin, ymin, xmax, ymax. -/
abbrev Box : Type := Fin 4 → EReal

/-- The area two boxes share, -/
def inter (a b : Box) : EReal :=
  max (min (a 2) (b 2) - max (a 0) (b 0)) 0 * max (min (a 3) (b 3) - max (a 1) (b 1)) 0

/-- a box's area -/
def area (a : Box) : EReal := max (a 2 - a 0) 0 * max (a 3 - a 1) 0

/-- and two boxes' intersection over union. -/
def iou (a b : Box) : EReal := Ideal.div (inter a b) (max (area a + area b - inter a b) EPS)

/-- The kernel's suppression: every anchor whose box meets `q` by the threshold is out. -/
def strike {n : ℕ} (box : Fin n → Box) (q : Box) (s : Fin n → EReal) : Fin n → EReal :=
  fun k => if OVER ≤ iou q (box k) then NEG else s k

/-- The reference's: also the pick itself, and nothing unless the pick's score is above the threshold. -/
def refStrike {n : ℕ} (box : Fin n → Box) (i : Fin n) (s : Fin n → EReal) : Fin n → EReal :=
  fun k => if (OVER ≤ iou (box i) (box k) ∨ k = i) ∧ TH < s i then NEG else s k

/-- Every score is out of play or above the threshold. -/
def InPlay {n : ℕ} (s : Fin n → EReal) : Prop := ∀ k, s k = NEG ∨ TH < s k

theorem InPlay.neg_le {n : ℕ} {s : Fin n → EReal} (h : InPlay s) (k : Fin n) : NEG ≤ s k := by
  rcases h k with e | e
  · exact e.ge
  · exact (neg_lt_th.trans e).le

theorem InPlay.refStrike {n : ℕ} {s : Fin n → EReal} (h : InPlay s) (box : Fin n → Box) (i : Fin n) : InPlay (refStrike box i s) := by
  intro k
  unfold Cert.Proof.refStrike
  by_cases hc : (OVER ≤ iou (box i) (box k) ∨ k = i) ∧ TH < s i
  · exact .inl (if_pos hc)
  · rw [if_neg hc]
    exact h k

/-- An anchor among the 5000, as one of the kernel's 5120. -/
abbrev wide (n : Fin 5000) : Fin 5120 := n.castLE (by norm_num)

/-- The kernel's scores are the reference's, and out of play past them. -/
structure Padded (sr : Fin 5000 → EReal) (sk : Fin 5120 → EReal) : Prop where
  same : ∀ n, sk (wide n) = sr n
  rest : ∀ n : Fin 5120, 5000 ≤ n.val → sk n = NEG

theorem cases_wide (n : Fin 5120) : (∃ k : Fin 5000, n = wide k) ∨ 5000 ≤ n.val := by
  by_cases h : n.val < 5000
  · exact .inl ⟨⟨n.val, h⟩, rfl⟩
  · exact .inr (by omega)

/-- The first best anchor of the 5000 is that of the 5120. -/
theorem Padded.first {sr : Fin 5000 → EReal} {sk : Fin 5120 → EReal} (h : Padded sr sk) (hp : InPlay sr) {i : Fin 5000}
    (hi : First sr i) : First sk (wide i) where
  top j := by
    rw [h.same]
    rcases cases_wide j with ⟨k, rfl⟩ | hj
    · rw [h.same]
      exact hi.top k
    · rw [h.rest j hj]
      exact hp.neg_le i
  before j hj := by
    rw [h.same]
    rcases cases_wide j with ⟨k, rfl⟩ | hj'
    · rw [h.same]
      exact hi.before k (Fin.lt_def.mpr hj)
    · exact absurd (Fin.lt_def.mp hj) (by have := i.isLt; show ¬ j.val < i.val; omega)

/-- The two suppressions agree where every box meets itself by the threshold. -/
theorem Padded.strike {sr : Fin 5000 → EReal} {sk : Fin 5120 → EReal} (h : Padded sr sk) (hp : InPlay sr)
    {br : Fin 5000 → Box} {bk : Fin 5120 → Box} (hb : ∀ n, bk (wide n) = br n) (hself : ∀ n, OVER ≤ iou (br n) (br n))
    {i : Fin 5000} (hi : First sr i) : Padded (refStrike br i sr) (strike bk (br i) sk) where
  same n := by
    unfold Cert.Proof.strike Cert.Proof.refStrike
    rw [hb, h.same]
    rcases hp i with e | e
    · have hn : sr n = NEG := le_antisymm (e ▸ hi.top n) (hp.neg_le n)
      rw [hn]
      simp only [ite_self]
    · by_cases ho : OVER ≤ iou (br i) (br n)
      · rw [if_pos ho, if_pos ⟨.inl ho, e⟩]
      · rw [if_neg ho, if_neg]
        rintro ⟨h1 | h1, _⟩
        · exact ho h1
        · exact ho (h1 ▸ hself n)
  rest n hn := by
    unfold Cert.Proof.strike
    rw [h.rest n hn]
    simp only [ite_self]

/-- What a round gives out: the pick's score and box, or zeros where the score is not above the threshold. -/
def given {n : ℕ} (box : Fin n → Box) (i : Fin n) (s : Fin n → EReal) : Fin 5 → EReal :=
  Fin.cons (if TH < s i then s i else 0) fun k => if TH < s i then box i k else 0

end Cert.Proof

end
-- ==== Proof.Math.Select.lean ====
/- Comparisons that select, and words turned into floats, in the reals. -/
module

public import proofs.«01_k».proof.Proof.Math.Nms

@[expose] public section

noncomputable section

namespace Cert.Proof

open Idealize.ShloMosaic

/-- A decided proposition as a bit selects like the proposition. -/
theorem select_bool {α : Type} (p : Prop) [Decidable p] (x y : α) :
    Scalar.select (BitVec.ofBool (decide p)) x y = if p then x else y := by
  unfold Scalar.select
  by_cases h : p <;> simp [h]

theorem select_oeq {α : Type} (a b : EReal) (x y : α) :
    Scalar.select (FloatOps.cmpf (F := Ideal) (φ := .f32) .oeq a b) x y = if a = b then x else y :=
  select_bool (a = b) x y

theorem select_ogt {α : Type} (a b : EReal) (x y : α) :
    Scalar.select (FloatOps.cmpf (F := Ideal) (φ := .f32) .ogt a b) x y = if b < a then x else y :=
  select_bool (b < a) x y

theorem select_oge {α : Type} (a b : EReal) (x y : α) :
    Scalar.select (FloatOps.cmpf (F := Ideal) (φ := .f32) .oge a b) x y = if b ≤ a then x else y :=
  select_bool (b ≤ a) x y

/-- A small natural, as a word turned into a float. -/
theorem sitofp_nat (n : ℕ) (h : n < 2 ^ 31) : FloatOps.sitofp (F := Ideal) .f32 (BitVec.ofNat 32 n) = nat n := by
  show (((BitVec.ofNat 32 n).toInt : ℝ) : EReal) = _
  have : (BitVec.ofNat 32 n).toInt = (n : ℤ) := by
    rw [BitVec.toInt_eq_toNat_cond, BitVec.toNat_ofNat, Nat.mod_eq_of_lt (by omega), if_pos (by omega)]
  rw [this, Int.cast_natCast]

/-- A chunk's number times the chunk's length, and a lane on top. -/
theorem position_of (c l : ℕ) : nat c * Ideal.ofBits .f32 0x43000000#32 + nat l = nat (128 * c + l) := by
  unfold nat
  rw [w128_eq, ← EReal.coe_mul, ← EReal.coe_add]
  congr 1
  push_cast
  ring

/-- A lane's number, not negative, read as an index into 128 lanes. -/
theorem lane_of (l : ℕ) (h : l < 128) :
    (Scalar.select (IntOp.cmpi .slt (BitVec.ofNat 32 l) 0#32) (IntOp.addi (BitVec.ofNat 32 l) 128#32) (BitVec.ofNat 32 l)).toNat % 128 = l := by
  have : ∀ l : Fin 128, (Scalar.select (IntOp.cmpi .slt (BitVec.ofNat 32 l.val) 0#32) (IntOp.addi (BitVec.ofNat 32 l.val) 128#32)
      (BitVec.ofNat 32 l.val)).toNat % 128 = l.val := by decide
  exact this ⟨l, h⟩

end Cert.Proof

end
-- ==== Proof.Re.Best.lean ====
/- The best a lane holds, and the pick made of it, as the first greatest score of the row. -/
module

public import proofs.«01_k».proof.Proof.Re.Rounds
public import proofs.«01_k».proof.Proof.Math.Select
public import Idealize.ShloMosaic.Lib.Pointwise.Tactic
public import Idealize.ShloMosaic.Lib.Pointwise.Reduce
public import Idealize.ShloMosaic.Lib.Pointwise.Reshape

@[expose] public section

set_option maxRecDepth 16384

noncomputable section

namespace Cert.Proof.Re

open Cert.KernelIdeal Cert.KernelIdeal.Gen
open Idealize.ShloMosaic

/-- What a lane holds after the chunks `0 … n`: the first greatest score of its own, its chunk and its box. -/
theorem bestUpTo_spec (s x0 y0 x1 y1 : ℕ → FVec Ideal S80x128 .f32) (j : S80x128.Idx) : ∀ n, n < 40 →
    ∃ c ≤ n, (bestUpTo s x0 y0 x1 y1 n).1 j = s c j ∧ (bestUpTo s x0 y0 x1 y1 n).2.1 j = nat c
      ∧ (bestUpTo s x0 y0 x1 y1 n).2.2.1 j = x0 c j ∧ (bestUpTo s x0 y0 x1 y1 n).2.2.2.1 j = y0 c j
      ∧ (bestUpTo s x0 y0 x1 y1 n).2.2.2.2.1 j = x1 c j ∧ (bestUpTo s x0 y0 x1 y1 n).2.2.2.2.2 j = y1 c j
      ∧ (∀ c' ≤ n, s c' j ≤ s c j) ∧ ∀ c' < c, s c' j < s c j
  | 0, _ => by
    refine ⟨0, le_refl 0, rfl, ?_, rfl, rfl, rfl, rfl, ?_, ?_⟩
    · show Ideal.ofBits .f32 (chunkWord 0) = nat 0
      exact chunkWord_eq 0 (by norm_num)
    · intro c' h
      rw [Nat.le_zero.mp h]
    · intro c' h
      exact absurd h (Nat.not_lt_zero _)
  | n + 1, hn => by
    obtain ⟨c, hc, e1, e2, e3, e4, e5, e6, top, before⟩ := bestUpTo_spec s x0 y0 x1 y1 j n (by omega)
    have hs : ∀ (p q : FVec Ideal S80x128 .f32), select (cmpf .ogt (s (n + 1)) (bestUpTo s x0 y0 x1 y1 n).1) p q j
        = if s c j < s (n + 1) j then p j else q j := by
      intro p q
      rw [← e1]
      exact select_ogt _ _ _ _
    have hm : (bestUpTo s x0 y0 x1 y1 (n + 1)).1 j = max (s c j) (s (n + 1) j) := by
      rw [← e1]
      rfl
    have hw : (bestUpTo s x0 y0 x1 y1 (n + 1)).2.1 j
        = if s c j < s (n + 1) j then nat (n + 1) else (bestUpTo s x0 y0 x1 y1 n).2.1 j := by
      show select _ _ _ j = _
      rw [hs]
      have : broadcast S80x128 (Scalar.ofBits (F := Ideal) .f32 (chunkWord (n + 1))) j = nat (n + 1) := chunkWord_eq (n + 1) hn
      rw [this]
    have h2 : (bestUpTo s x0 y0 x1 y1 (n + 1)).2.2.1 j = if s c j < s (n + 1) j then x0 (n + 1) j else (bestUpTo s x0 y0 x1 y1 n).2.2.1 j := hs _ _
    have h3 : (bestUpTo s x0 y0 x1 y1 (n + 1)).2.2.2.1 j = if s c j < s (n + 1) j then y0 (n + 1) j else (bestUpTo s x0 y0 x1 y1 n).2.2.2.1 j := hs _ _
    have h4 : (bestUpTo s x0 y0 x1 y1 (n + 1)).2.2.2.2.1 j = if s c j < s (n + 1) j then x1 (n + 1) j else (bestUpTo s x0 y0 x1 y1 n).2.2.2.2.1 j := hs _ _
    have h5 : (bestUpTo s x0 y0 x1 y1 (n + 1)).2.2.2.2.2 j = if s c j < s (n + 1) j then y1 (n + 1) j else (bestUpTo s x0 y0 x1 y1 n).2.2.2.2.2 j := hs _ _
    rw [hm, hw, h2, h3, h4, h5]
    by_cases h : s c j < s (n + 1) j
    · simp only [if_pos h]
      refine ⟨n + 1, le_refl _, max_eq_right h.le, rfl, rfl, rfl, rfl, rfl, ?_, ?_⟩
      · intro c' hc'
        rcases Nat.lt_or_ge n c' with h' | h'
        · rw [show c' = n + 1 by omega]
        · exact (top c' h').trans h.le
      · intro c' hc'
        exact (top c' (by omega)).trans_lt h
    · simp only [if_neg h]
      refine ⟨c, by omega, max_eq_left (not_lt.mp h), e2, e3, e4, e5, e6, ?_, before⟩
      intro c' hc'
      rcases Nat.lt_or_ge n c' with h' | h'
      · rw [show c' = n + 1 by omega]
        exact not_lt.mp h
      · exact top c' h'

/-- A row of a vector of `80 × 5120`. -/
abbrev rowOf (v : FVec Ideal S80x5120 .f32) (r : Fin 80) : Fin 5120 → EReal := fun n => v (ix2 r n)

/-- A row's boxes. -/
abbrev rowBox (x0 y0 x1 y1 : FVec Ideal S80x5120 .f32) (r : Fin 80) : Fin 5120 → Box :=
  fun n => ![x0 (ix2 r n), y0 (ix2 r n), x1 (ix2 r n), y1 (ix2 r n)]

/-- The anchor at a lane of a chunk. -/
abbrev anchor (c : ℕ) (hc : c < 40) (l : Fin 128) : Fin 5120 := ⟨128 * c + l.val, by omega⟩

/-- Every lane holds the first greatest score of its own, its chunk and its box. -/
def Best (s x0 y0 x1 y1 : FVec Ideal S80x5120 .f32) (A : Lanes Ideal) : Prop :=
  ∀ (r : Fin 80) (l : Fin 128), ∃ (c : ℕ) (hc : c < 40),
    A.1 (ix2 r l) = rowOf s r (anchor c hc l) ∧ A.2.1 (ix2 r l) = nat c
      ∧ ![A.2.2.1 (ix2 r l), A.2.2.2.1 (ix2 r l), A.2.2.2.2.1 (ix2 r l), A.2.2.2.2.2 (ix2 r l)]
          = rowBox x0 y0 x1 y1 r (anchor c hc l)
      ∧ (∀ (c' : ℕ) (hc' : c' < 40), rowOf s r (anchor c' hc' l) ≤ rowOf s r (anchor c hc l))
      ∧ ∀ (c' : ℕ) (hc' : c' < c), rowOf s r (anchor c' (by omega) l) < rowOf s r (anchor c hc l)

/-- A chunk read at a lane. -/
theorem chunkVec_apply (v : FVec Ideal S80x5120 .f32) (c : ℕ) (hc : c < 40) (r : Fin 80) (l : Fin 128) :
    chunkVec v c (ix2 r l) = rowOf v r (anchor c hc l) := by
  show v _ = v _
  congr 1
  funext d
  refine Fin.ext ?_
  fin_cases d
  · show 0 + r.val = r.val
    omega
  · show 128 * (c % 40) + l.val = 128 * c + l.val
    omega

/-- Chunks that are those of a vector make it so. -/
theorem best_of (s x0 y0 x1 y1 : FVec Ideal S80x5120 .f32) (sc : ℕ → FVec Ideal S80x128 .f32)
    (hs : ∀ c (hc : c < 40) r l, sc c (ix2 r l) = rowOf s r (anchor c hc l)) :
    Best s x0 y0 x1 y1 (bestUpTo sc (chunkVec x0) (chunkVec y0) (chunkVec x1) (chunkVec y1) 39) := by
  intro r l
  obtain ⟨c, hc, e1, e2, e3, e4, e5, e6, top, before⟩ := bestUpTo_spec sc (chunkVec x0) (chunkVec y0) (chunkVec x1) (chunkVec y1) (ix2 r l) 39 (by norm_num)
  refine ⟨c, by omega, ?_, e2, ?_, ?_, ?_⟩
  · rw [e1, hs]
  · rw [e3, e4, e5, e6, chunkVec_apply _ c (by omega), chunkVec_apply _ c (by omega), chunkVec_apply _ c (by omega), chunkVec_apply _ c (by omega)]
  · intro c' hc'
    rw [← hs, ← hs]
    exact top c' (by omega)
  · intro c' hc'
    rw [← hs, ← hs]
    exact before c' hc'

/-- A row's greatest score, as the pick computes it. -/
theorem pickScore_apply (A : Lanes Ideal) (r : Fin 80) :
    pickScore A (ix2 r (0 : Fin 1)) = Finset.univ.fold max ⊥ fun l : Fin 128 => A.1 (ix2 r l) := by
  unfold pickScore
  unfold_payloads
  pointwise
  rw [wbot_eq]

/-- A row's first position of the greatest score. -/
def pickPos (A : Lanes Ideal) (r : Fin 80) : EReal :=
  Finset.univ.fold min ⊤ fun l : Fin 128 =>
    if A.1 (ix2 r l) = pickScore A (ix2 r (0 : Fin 1)) then
      A.2.1 (ix2 r l) * Ideal.ofBits .f32 0x43000000#32 + nat l.val
    else BIG

/-- Its lane. -/
theorem pickLane_apply (A : Lanes Ideal) (r : Fin 80) :
    pickLane A (ix2 r (0 : Fin 1)) = Ideal.fptosi 32 (pickPos A r
      - Ideal.liftRound Int.floor (pickPos A r * Ideal.ofBits .f32 0x3C000000#32) * Ideal.ofBits .f32 0x43000000#32) := by
  have h : (fun l : Fin 128 => Scalar.select (FloatOps.cmpf (F := Ideal) (φ := .f32) CmpFPredicate.oeq (A.1 (ix2 r l)) (Finset.univ.fold max ⊥ fun l : Fin 128 => A.1 (ix2 r l)))
        (A.2.1 (ix2 r l) * Ideal.ofBits .f32 0x43000000#32 + FloatOps.sitofp .f32 (BitVec.ofNat 32 l.val)) (Ideal.ofBits .f32 0x4E6E6B28#32))
      = fun l : Fin 128 => if A.1 (ix2 r l) = pickScore A (ix2 r (0 : Fin 1)) then
          A.2.1 (ix2 r l) * Ideal.ofBits .f32 0x43000000#32 + nat l.val else BIG := by
    funext l
    rw [select_oeq, pickScore_apply, sitofp_nat _ (by omega)]
  unfold pickPos
  rw [← h]
  unfold pickLane
  unfold_payloads
  pointwise
  rw [wbot_eq, wtop_eq]
  rfl

/-- A lane's word, as an index along the lanes. -/
def laneIx (w : BitVec 32) : Fin 128 :=
  ⟨(Scalar.select (IntOp.cmpi .slt w 0#32) (IntOp.addi w 128#32) w).toNat % 128, Nat.mod_lt _ (by norm_num)⟩

theorem pickX0_apply (A : Lanes Ideal) (r : Fin 80) :
    pickX0 A (ix2 r (0 : Fin 1)) = A.2.2.1 (ix2 r (laneIx (pickLane A (ix2 r (0 : Fin 1))))) := by
  unfold laneIx pickX0 pickLane
  unfold_payloads
  pointwise

theorem pickY0_apply (A : Lanes Ideal) (r : Fin 80) :
    pickY0 A (ix2 r (0 : Fin 1)) = A.2.2.2.1 (ix2 r (laneIx (pickLane A (ix2 r (0 : Fin 1))))) := by
  unfold laneIx pickY0 pickLane
  unfold_payloads
  pointwise

theorem pickX1_apply (A : Lanes Ideal) (r : Fin 80) :
    pickX1 A (ix2 r (0 : Fin 1)) = A.2.2.2.2.1 (ix2 r (laneIx (pickLane A (ix2 r (0 : Fin 1))))) := by
  unfold laneIx pickX1 pickLane
  unfold_payloads
  pointwise

theorem pickY1_apply (A : Lanes Ideal) (r : Fin 80) :
    pickY1 A (ix2 r (0 : Fin 1)) = A.2.2.2.2.2 (ix2 r (laneIx (pickLane A (ix2 r (0 : Fin 1))))) := by
  unfold laneIx pickY1
  generalize pickLane A = L
  unfold_payloads
  pointwise

/-- The pick's box. -/
abbrev pickBox (A : Lanes Ideal) (r : Fin 80) : Box :=
  ![pickX0 A (ix2 r (0 : Fin 1)), pickY0 A (ix2 r (0 : Fin 1)), pickX1 A (ix2 r (0 : Fin 1)), pickY1 A (ix2 r (0 : Fin 1))]

/-- The pick of a row is its first greatest score and that anchor's box. -/
theorem pick_spec {s x0 y0 x1 y1 : FVec Ideal S80x5120 .f32} {A : Lanes Ideal} (h : Best s x0 y0 x1 y1 A) (r : Fin 80) :
    ∃ i : Fin 5120, First (rowOf s r) i ∧ pickScore A (ix2 r (0 : Fin 1)) = rowOf s r i ∧ pickBox A r = rowBox x0 y0 x1 y1 r i := by
  choose c hc e1 e2 e3 top before using h r
  obtain ⟨l0, hl0, hmax⟩ := fold_max fun l : Fin 128 => A.1 (ix2 r l)
  have hM : pickScore A (ix2 r (0 : Fin 1)) = A.1 (ix2 r l0) := (pickScore_apply A r).trans hl0
  have hpos : pickPos A r = Finset.univ.fold min ⊤ fun l : Fin 128 =>
      if A.1 (ix2 r l) = pickScore A (ix2 r (0 : Fin 1)) then nat (128 * c l + l.val) else BIG := by
    unfold pickPos
    congr 1
    funext l
    rw [e2, position_of]
  obtain ⟨l, hl, hmin, hleast⟩ := min_position (fun l : Fin 128 => A.1 (ix2 r l) = pickScore A (ix2 r (0 : Fin 1))) (fun l => 128 * c l + l.val)
    (fun l => by have := hc l; omega) ⟨l0, hM.symm⟩
  have hp : pickPos A r = nat (128 * c l + l.val) := by
    rw [hpos, ← hmin]
  have hlane : laneIx (pickLane A (ix2 r (0 : Fin 1))) = l := by
    refine Fin.ext ?_
    rw [pickLane_apply, hp, base_of, off_of, show (128 * c l + l.val) % 128 = l.val by omega, int_of _ l.isLt]
    exact lane_of _ l.isLt
  have hle : ∀ l', A.1 (ix2 r l') ≤ rowOf s r (anchor (c l) (hc l) l) := by
    intro l'
    rw [← e1, hl, hM]
    exact hmax l'
  refine ⟨anchor (c l) (hc l) l, ⟨?_, ?_⟩, ?_, ?_⟩
  · intro n
    have hn : n = anchor (n.val / 128) (by omega) ⟨n.val % 128, by omega⟩ := Fin.ext (by show n.val = 128 * (n.val / 128) + n.val % 128; omega)
    rw [hn]
    refine (top _ _ _).trans ?_
    rw [← e1]
    exact hle _
  · intro n hlt
    have hn : n = anchor (n.val / 128) (by omega) ⟨n.val % 128, by omega⟩ := Fin.ext (by show n.val = 128 * (n.val / 128) + n.val % 128; omega)
    have hlt' : n.val < 128 * c l + l.val := hlt
    by_contra hcon
    have hge := not_lt.mp hcon
    have hA : A.1 (ix2 r ⟨n.val % 128, by omega⟩) = pickScore A (ix2 r (0 : Fin 1)) := by
      refine le_antisymm ((hle _).trans (by rw [← e1, hl])) ?_
      rw [← hl, e1, e1]
      refine hge.trans ?_
      conv_lhs => rw [hn]
      exact top _ _ _
    have hpos' := hleast _ hA
    have hc' : n.val / 128 < c ⟨n.val % 128, by omega⟩ := by
      dsimp only at hpos'
      omega
    have := before ⟨n.val % 128, by omega⟩ (n.val / 128) hc'
    rw [← e1, hA, ← hl, e1] at this
    exact absurd this (not_lt.mpr (hge.trans_eq (by conv_lhs => rw [hn])))
  · rw [← hl, e1]
  · unfold pickBox
    rw [pickX0_apply, pickY0_apply, pickX1_apply, pickY1_apply, hlane]
    exact e3 l

end Cert.Proof.Re

end
-- ==== Proof.Math.Rounds.lean ====
/- The suppression's rounds in plain mathematics. -/
module

public import proofs.«01_k».proof.Proof.Math.Select

@[expose] public section

noncomputable section

namespace Cert.Proof

open Idealize.ShloMosaic

theorem exists_first {n : ℕ} (f : Fin (n + 1) → EReal) : ∃ i, First f i := by
  obtain ⟨i, hi⟩ := Finite.exists_max f
  have hex : ∃ m : ℕ, ∃ h : m < n + 1, f ⟨m, h⟩ = f i := ⟨i.val, i.isLt, rfl⟩
  classical
  obtain ⟨hm, he⟩ := Nat.find_spec hex
  refine ⟨⟨Nat.find hex, hm⟩, fun j => (hi j).trans_eq he.symm, fun j hj => ?_⟩
  rw [he]
  exact lt_of_le_of_ne (hi j) fun e => Nat.find_min hex (Fin.lt_def.mp hj) ⟨j.isLt, e⟩

/-- The first greatest place of a list. -/
def best {n : ℕ} (f : Fin (n + 1) → EReal) : Fin (n + 1) := (exists_first f).choose

theorem best_first {n : ℕ} (f : Fin (n + 1) → EReal) : First f (best f) := (exists_first f).choose_spec

/-- The scores after `k` rounds. -/
def scoresAfter (box : Fin 5000 → Box) (s : Fin 5000 → EReal) : ℕ → Fin 5000 → EReal
  | 0 => s
  | k + 1 => refStrike box (best (n := 4999) (scoresAfter box s k)) (scoresAfter box s k)

/-- What round `k` gives out. -/
def roundGives (box : Fin 5000 → Box) (s : Fin 5000 → EReal) (k : ℕ) : Fin 5 → EReal :=
  given box (best (n := 4999) (scoresAfter box s k)) (scoresAfter box s k)

theorem InPlay.after {s : Fin 5000 → EReal} (h : InPlay s) (box : Fin 5000 → Box) : ∀ k, InPlay (scoresAfter box s k)
  | 0 => h
  | k + 1 => (h.after box k).refStrike box _

end Cert.Proof

end
-- ==== Proof.Re.RoundsValue.lean ====
/- The suppression kernel's rounds are those of the plain mathematics, row by row. -/
module

public import proofs.«01_k».proof.Proof.Re.Best
public import proofs.«01_k».proof.Proof.Re.Nms
public import proofs.«01_k».proof.Proof.Math.Rounds

@[expose] public section

set_option maxRecDepth 16384

noncomputable section

namespace Cert.Proof.Re

open Cert.KernelIdeal Cert.KernelIdeal.Gen
open Idealize.ShloMosaic

variable {x0 y0 x1 y1 ar : FVec Ideal S80x5120 .f32}

theorem rowX0_apply (A : Lanes Ideal) (r : Fin 80) (l : Fin 128) : rowX0 A (ix2 r l) = pickBox A r 0 := by
  show rowX0 A (ix2 r l) = pickX0 A (ix2 r (0 : Fin 1))
  unfold rowX0 k0_pay15
  pointwise

theorem rowY0_apply (A : Lanes Ideal) (r : Fin 80) (l : Fin 128) : rowY0 A (ix2 r l) = pickBox A r 1 := by
  show rowY0 A (ix2 r l) = pickY0 A (ix2 r (0 : Fin 1))
  unfold rowY0 k0_pay16
  pointwise

theorem rowX1_apply (A : Lanes Ideal) (r : Fin 80) (l : Fin 128) : rowX1 A (ix2 r l) = pickBox A r 2 := by
  show rowX1 A (ix2 r l) = pickX1 A (ix2 r (0 : Fin 1))
  unfold rowX1 k0_pay17 pickX1
  pointwise

theorem rowY1_apply (A : Lanes Ideal) (r : Fin 80) (l : Fin 128) : rowY1 A (ix2 r l) = pickBox A r 3 := by
  show rowY1 A (ix2 r l) = pickY1 A (ix2 r (0 : Fin 1))
  unfold rowY1 k0_pay18 pickY1
  pointwise

theorem rowArea_apply (A : Lanes Ideal) (r : Fin 80) (l : Fin 128) : rowArea A (ix2 r l) = area (pickBox A r) := by
  show _ = max (pickX1 A (ix2 r (0 : Fin 1)) - pickX0 A (ix2 r (0 : Fin 1))) 0 * max (pickY1 A (ix2 r (0 : Fin 1)) - pickY0 A (ix2 r (0 : Fin 1))) 0
  unfold rowArea k0_pay19 pickX1 pickY1
  pointwise

/-- A chunk of the round's scores: the overlapping anchors struck out. -/
theorem roundChunk_apply (har : ∀ r n, ar (ix2 r n) = area (rowBox x0 y0 x1 y1 r n)) (S : Round Ideal) (c : ℕ) (hc : c < 40)
    (r : Fin 80) (l : Fin 128) :
    roundChunk x0 y0 x1 y1 ar S c (ix2 r l) = strike (rowBox x0 y0 x1 y1 r) (pickBox S.1 r) (rowOf S.2 r) (anchor c hc l) := by
  have hi : inter (rowX0 S.1) (rowY0 S.1) (rowX1 S.1) (rowY1 S.1) (chunkVec x0 c) (chunkVec y0 c) (chunkVec x1 c) (chunkVec y1 c) (ix2 r l)
      = Cert.Proof.inter (pickBox S.1 r) (rowBox x0 y0 x1 y1 r (anchor c hc l)) := by
    show max (min (rowX1 S.1 (ix2 r l)) (chunkVec x1 c (ix2 r l)) - max (rowX0 S.1 (ix2 r l)) (chunkVec x0 c (ix2 r l))) (Ideal.ofBits .f32 0x00000000#32)
        * max (min (rowY1 S.1 (ix2 r l)) (chunkVec y1 c (ix2 r l)) - max (rowY0 S.1 (ix2 r l)) (chunkVec y0 c (ix2 r l))) (Ideal.ofBits .f32 0x00000000#32) = _
    rw [Ideal.ofBits_zero, rowX0_apply, rowX1_apply, rowY0_apply, rowY1_apply, chunkVec_apply _ c hc, chunkVec_apply _ c hc, chunkVec_apply _ c hc, chunkVec_apply _ c hc]
    rfl
  unfold roundChunk struck
  generalize inter (rowX0 S.1) (rowY0 S.1) (rowX1 S.1) (rowY1 S.1) (chunkVec x0 c) (chunkVec y0 c) (chunkVec x1 c) (chunkVec y1 c) = it at *
  show Scalar.select (FloatOps.cmpf (F := Ideal) (φ := .f32) .oge (Ideal.div (it (ix2 r l)) (max (rowArea S.1 (ix2 r l) + chunkVec ar c (ix2 r l) - it (ix2 r l)) EPS)) OVER) NEG
    (chunkVec S.2 c (ix2 r l)) = _
  rw [select_oge, hi, rowArea_apply, chunkVec_apply _ c hc, chunkVec_apply _ c hc, show rowOf ar r (anchor c hc l) = _ from har r _]
  rfl

/-- A round's scores. -/
theorem round_scores (har : ∀ r n, ar (ix2 r n) = area (rowBox x0 y0 x1 y1 r n)) (S : Round Ideal) (r : Fin 80) :
    rowOf (round x0 y0 x1 y1 ar S).2 r = strike (rowBox x0 y0 x1 y1 r) (pickBox S.1 r) (rowOf S.2 r) := by
  funext n
  show roundChunk x0 y0 x1 y1 ar S (n.val / 128) (ix2 r ⟨n.val % 128, _⟩) = _
  rw [roundChunk_apply har S (n.val / 128) (by omega)]
  congr 1
  exact Fin.ext (by show 128 * (n.val / 128) + n.val % 128 = n.val; omega)

/-- A round leaves the lanes holding the best of its scores. -/
theorem round_best (S : Round Ideal) : Best (round x0 y0 x1 y1 ar S).2 x0 y0 x1 y1 (round x0 y0 x1 y1 ar S).1 := by
  refine best_of _ _ _ _ _ _ fun c hc r l => ?_
  show _ = roundChunk x0 y0 x1 y1 ar S ((128 * c + l.val) / 128) (ix2 r ⟨(128 * c + l.val) % 128, _⟩)
  congr 1
  · omega
  · congr 1
    exact Fin.ext (by show l.val = (128 * c + l.val) % 128; omega)

theorem rounds_best (S : Round Ideal) (h : Best S.2 x0 y0 x1 y1 S.1) :
    ∀ k, Best (rounds x0 y0 x1 y1 ar S k).2 x0 y0 x1 y1 (rounds x0 y0 x1 y1 ar S k).1
  | 0 => h
  | _ + 1 => round_best _

/-- Row `r` after `k` rounds: the plain rounds' scores, and nothing past them. -/
theorem rounds_padded (har : ∀ r n, ar (ix2 r n) = area (rowBox x0 y0 x1 y1 r n)) (S : Round Ideal) (h : Best S.2 x0 y0 x1 y1 S.1)
    (r : Fin 80) {br : Fin 5000 → Box} (hb : ∀ n, rowBox x0 y0 x1 y1 r (wide n) = br n) (hself : ∀ n, OVER ≤ iou (br n) (br n))
    {sr : Fin 5000 → EReal} (hp : InPlay sr) (hs : Padded sr (rowOf S.2 r)) :
    ∀ k, Padded (scoresAfter br sr k) (rowOf (rounds x0 y0 x1 y1 ar S k).2 r)
  | 0 => hs
  | k + 1 => by
    have ih := rounds_padded har S h r hb hself hp hs k
    obtain ⟨i, hi, -, hbox⟩ := pick_spec (rounds_best (ar := ar) S h k) r
    have hbest := best_first (n := 4999) (scoresAfter br sr k)
    have e : i = wide (best (n := 4999) (scoresAfter br sr k)) := hi.unique (ih.first (hp.after br k) hbest)
    show Padded _ (rowOf (round x0 y0 x1 y1 ar (rounds x0 y0 x1 y1 ar S k)).2 r)
    rw [round_scores har, hbox, e, hb]
    exact ih.strike (hp.after br k) hb hself hbest

/-- A round's row of the output. -/
theorem pickRow_apply (A : Lanes Ideal) (q : Fin 5) (r : Fin 80) :
    pickRow A q (ix3 (0 : Fin 1) (0 : Fin 1) r)
      = (Fin.cons (if TH < pickScore A (ix2 r (0 : Fin 1)) then pickScore A (ix2 r (0 : Fin 1)) else 0)
          fun k => if TH < pickScore A (ix2 r (0 : Fin 1)) then pickBox A r k else 0 : Fin 5 → EReal) q := by
  fin_cases q
  · show k0_pay407 (pickScore A) (k0_pay14 (pickScore A)) _ = ite _ _ _
    unfold k0_pay407 k0_pay14 k0_pay406
    pointwise
    rw [select_ogt]
  · show k0_pay408 (pickX0 A) (k0_pay14 (pickScore A)) _ = ite _ (pickX0 A _) _
    unfold k0_pay408 k0_pay14 k0_pay406
    pointwise
    rw [select_ogt]
  · show k0_pay409 (pickY0 A) (k0_pay14 (pickScore A)) _ = ite _ (pickY0 A _) _
    unfold k0_pay409 k0_pay14 k0_pay406
    pointwise
    rw [select_ogt]
  · show k0_pay410 (pickX1 A) (k0_pay14 (pickScore A)) _ = ite _ (pickX1 A _) _
    unfold k0_pay410 k0_pay14 k0_pay406
    pointwise
    rw [select_ogt]
  · show k0_pay4 (k0_pay406 (k0_pay14 (pickScore A))) (k0_pay411 (pickY1 A)) (Scalar.ofBits .f32 0x00000000#32) _ = ite _ (pickY1 A _) _
    unfold k0_pay4 k0_pay406 k0_pay411 k0_pay14
    pointwise
    rw [select_ogt]

/-- What the rounds give out, row by row. -/
theorem picks_given (har : ∀ r n, ar (ix2 r n) = area (rowBox x0 y0 x1 y1 r n)) (S : Round Ideal) (h : Best S.2 x0 y0 x1 y1 S.1)
    (r : Fin 80) {br : Fin 5000 → Box} (hb : ∀ n, rowBox x0 y0 x1 y1 r (wide n) = br n) (hself : ∀ n, OVER ≤ iou (br n) (br n))
    {sr : Fin 5000 → EReal} (hp : InPlay sr) (hs : Padded sr (rowOf S.2 r)) (q : Fin 5) (k : Fin 100) :
    picksOut x0 y0 x1 y1 ar S (ix3 q k r) = roundGives br sr k.val q := by
  show pickRow (rounds x0 y0 x1 y1 ar S k.val).1 q (ix3 (0 : Fin 1) (0 : Fin 1) r) = _
  have ih := rounds_padded har S h r hb hself hp hs k.val
  obtain ⟨i, hi, hscore, hbox⟩ := pick_spec (rounds_best (ar := ar) S h k.val) r
  have hbest := best_first (n := 4999) (scoresAfter br sr k.val)
  have e : i = wide (best (n := 4999) (scoresAfter br sr k.val)) := hi.unique (ih.first (hp.after br k.val) hbest)
  rw [pickRow_apply, hscore, hbox, e, hb, ih.same]
  rfl

/-- The first pass leaves the lanes holding the best of the first scores. -/
theorem firstBest_best (s x0 y0 x1 y1 : FVec Ideal S80x5120 .f32) : Best s x0 y0 x1 y1 (firstBest s x0 y0 x1 y1) := by
  unfold firstBest
  exact best_of _ _ _ _ _ _ fun c hc r l => chunkVec_apply s c hc r l

theorem boxArea_apply (x : Vec Ideal S12x4x5120 .f32) (r : Fin 80) (n : Fin 5120) :
    boxArea x (ix2 r n) = area (rowBox (boxX0 x) (boxY0 x) (boxX1 x) (boxY1 x) r n) := by
  show _ = max (boxX1 x (ix2 r n) - boxX0 x (ix2 r n)) 0 * max (boxY1 x (ix2 r n) - boxY0 x (ix2 r n)) 0
  unfold boxArea k0_pay436
  pointwise

theorem highScores_apply (s : Vec Ideal S80x5120 .f32) (r : Fin 80) (n : Fin 5120) :
    highScores s (ix2 r n) = if TH < s (ix2 r n) then s (ix2 r n) else NEG := by
  unfold highScores k0_pay437
  pointwise
  rw [select_ogt]

end Cert.Proof.Re

end
-- ==== Proof.Math.Decode.lean ====
/- A box of the twelve numbers of its anchor. -/
module

public import proofs.«01_k».proof.Proof.Math.Nms

@[expose] public section

noncomputable section

namespace Cert.Proof

open Idealize.ShloMosaic

/-- An anchor's centre on one axis: the offset by the anchor's size and variance, from the anchor's own. -/
def centre (off size var at_ : EReal) : EReal := off * size * var + at_

/-- The box's size on one axis. -/
def extent (size off var : EReal) : EReal := size * Ideal.exp (off * var)

/-- The corner before the centre, -/
def cornerLow (c e : EReal) : EReal := (c - Ideal.ofBits .f32 0x3F000000#32 * e) * Ideal.ofBits .f32 0x43960000#32

/-- and the corner past it, in pixels. -/
def cornerHigh (c e : EReal) : EReal := (c + Ideal.ofBits .f32 0x3F000000#32 * e) * Ideal.ofBits .f32 0x43960000#32

/-- The box of an anchor's four offsets, four anchor numbers and four variances. -/
def decode (v : Fin 12 → EReal) : Box :=
  ![cornerLow (centre (v 0) (v 6) (v 8) (v 4)) (extent (v 6) (v 2) (v 10)),
    cornerLow (centre (v 1) (v 7) (v 9) (v 5)) (extent (v 7) (v 3) (v 11)),
    cornerHigh (centre (v 0) (v 6) (v 8) (v 4)) (extent (v 6) (v 2) (v 10)),
    cornerHigh (centre (v 1) (v 7) (v 9) (v 5)) (extent (v 7) (v 3) (v 11))]

end Cert.Proof

end
-- ==== Proof.Re.Glue.lean ====
/- What the host operations hand the two grid programs and take from them, read at an index. -/
module

public import proofs.«01_k».proof.Proof.Re.Run
public import proofs.«01_k».proof.Proof.Re.RoundsValue
public import proofs.«01_k».proof.Proof.Math.Select
public import proofs.«01_k».proof.Proof.Math.Decode
public import Idealize.ShloMosaic.Lib.StableHlo.ReadAt
public import Idealize.ShloMosaic.Lib.Pipeline.ValueKit
public import Idealize.ShloMosaic.Lib.Pointwise.Tactic
public import Idealize.ShloMosaic.Lib.Pointwise.Reshape

@[expose] public section

set_option maxRecDepth 16384

noncomputable section

namespace Cert.Proof.Re

open Cert.KernelIdeal Cert.KernelIdeal.Gen
open Idealize.ShloMosaic Idealize.ShloMosaic.TcCoe Idealize.ShloMosaic.StableHlo

section Any

variable {F : FTy → Type} [FloatOps F]

/-- The argument with the anchors last, widened with zeros to 5120 of them. -/
def wideIn (y : Vec F S4x5000x33 .f32) : Vec F S33x4x5120 .f32 :=
  pad S33x4x5120 ![0, 0, 0] ![0, 0, 120] ![0, 0, 0] (transpose S33x4x5000 [2, 0, 1] y transposes_S4x5000x33_S33x4x5000_2_0_1)
    (sitofp .f32 (constantI S_ 32 0#32)) pads_S33x4x5000_S33x4x5120_000_000_01200 h_S_

/-- The scores as the first grid program reads them, a row for each batch and class, -/
def scIn (y : Vec F S4x5000x33 .f32) : Vec F S80x5120 .f32 :=
  shapeCast _ (transpose S4x20x5120 [1, 0, 2] (extractStridedSlice S20x4x5120 ![1, 0, 0] (wideIn y) slices_S33x4x5120_S20x4x5120_1_0_0)
    transposes_S20x4x5120_S4x20x5120_1_0_2) shapeCasts_S4x20x5120_S80x5120

/-- and the twelve numbers of each anchor's box. -/
def boxIn (y : Vec F S4x5000x33 .f32) : Vec F S12x4x5120 .f32 :=
  extractStridedSlice S12x4x5120 ![21, 0, 0] (wideIn y) slices_S33x4x5120_S12x4x5120_21_0_0

variable (m : (ℓ : Loc nD τ sig) → Buf (Elt F) ℓ) (ρ : Dev nD → PrngReg)

theorem W1_scores (c : Dev nD) : W1 m ρ c (Proc.devRef .tc main_call0_v4) = scIn (m ((c : Thread nD τ).loc main_arg0)) := by
  after_reads_simp
  rfl

theorem W1_boxes (c : Dev nD) : W1 m ρ c (Proc.devRef .tc main_call0_v5) = boxIn (m ((c : Thread nD τ).loc main_arg0)) := by
  after_reads_simp
  rfl

/-- The first grid program's only block of scores is all of them, -/
theorem block_scores (c : Dev nD) (t : Fin cfg0.N) : iblk0 (V1 m ρ) c 0 t = scIn (m ((c : Thread nD τ).loc main_arg0)) := by
  rw [← W1_scores m ρ c]
  funext i
  unfold iblk0
  blk_simp
  exact congrArg (V1 m ρ c main_call0_v4) (funext fun a => Fin.ext (Pipeline.Window.rect_emb_val_of_index_zero win0_0 t a rfl i))

theorem block_boxes (c : Dev nD) (t : Fin cfg0.N) : iblk0 (V1 m ρ) c 1 t = boxIn (m ((c : Thread nD τ).loc main_arg0)) := by
  rw [← W1_boxes m ρ c]
  funext i
  unfold iblk0
  blk_simp
  exact congrArg (V1 m ρ c main_call0_v5) (funext fun a => Fin.ext (Pipeline.Window.rect_emb_val_of_index_zero win0_1 t a rfl i))

/-- and what it leaves is its picks. -/
theorem W2_picks (c : Dev nD) : W2 m ρ c (Proc.devRef .tc main_call0_v6)
    = nmsOut (scIn (m ((c : Thread nD τ).loc main_arg0))) (boxIn (m ((c : Thread nD τ).loc main_arg0))) := by
  refine (W2_arr m ρ c 2).trans ?_
  refine (dat0 (V1 m ρ) c).arrAt_eq_of_covers 2 _ (by decide +kernel) fun t hf y => ?_
  blk_simp
  rw [after0_2]
  unfold outsAt0
  rw [block_scores, block_boxes]
  exact congrArg (nmsOut _ _) (funext fun a => Fin.ext (Pipeline.Window.rect_emb_val_of_index_zero win0_2 t a rfl y).symm)

end Any

/-- The widened argument at an index. -/
theorem wideIn_apply (y : Vec Ideal S4x5000x33 .f32) (e : Fin 33) (b : Fin 4) (n : Fin 5120) :
    wideIn y (ix3 e b n) = if h : n.val < 5000 then y (ix3 b ⟨n.val, h⟩ e) else 0 := by
  have h0 : FloatOps.sitofp (F := Ideal) FTy.f32 (0#32) = (0 : EReal) := (sitofp_nat 0 (by norm_num)).trans (by norm_num)
  unfold wideIn
  pointwise
  rw [h0]

/-- The row of a batch and class. -/
abbrev row (b : Fin 4) (c : Fin 20) : Fin 80 := ⟨b.val * 20 + c.val, by have := b.isLt; have := c.isLt; omega⟩

theorem scIn_apply (y : Vec Ideal S4x5000x33 .f32) (b : Fin 4) (c : Fin 20) (n : Fin 5120) :
    scIn y (ix2 (row b c) n) = wideIn y (ix3 (⟨1 + c.val, by have := c.isLt; omega⟩ : Fin 33) b n) := by
  have hc := c.isLt
  have hb := b.isLt
  unfold scIn
  pointwise
  exact congrArg₂ (fun (i : Fin 33) (j : Fin 4) => wideIn y (ix3 i j n)) (Fin.ext (by show 1 + (b.val * 20 + c.val) % 20 = 1 + c.val; omega))
    (Fin.ext (by show (b.val * 20 + c.val) / 20 = b.val; omega))

theorem boxIn_apply (y : Vec Ideal S4x5000x33 .f32) (i : Fin 12) (b : Fin 4) (n : Fin 5120) :
    boxIn y (ix3 i b n) = wideIn y (ix3 (⟨21 + i.val, by have := i.isLt; omega⟩ : Fin 33) b n) := by
  unfold boxIn
  pointwise

theorem plane_apply (x : Vec Ideal S12x4x5120 .f32) (i : Fin 12) (b : Fin 4) (n : Fin 5120) : plane x i (ix2 b n) = x (ix3 i b n) := by
  fin_cases i <;> (unfold plane; unfold_payloads; pointwise)

/-- The batch of a row. -/
abbrev batch (r : Fin 80) : Fin 4 := ⟨r.val / 20, by have := r.isLt; omega⟩

theorem boxX0_apply (x : Vec Ideal S12x4x5120 .f32) (r : Fin 80) (n : Fin 5120) :
    boxX0 x (ix2 r n) = decode (fun i => x (ix3 i (batch r) n)) 0 := by
  unfold boxX0
  simp only [← plane_apply]
  unfold_payloads
  pointwise
  rfl

theorem boxY0_apply (x : Vec Ideal S12x4x5120 .f32) (r : Fin 80) (n : Fin 5120) :
    boxY0 x (ix2 r n) = decode (fun i => x (ix3 i (batch r) n)) 1 := by
  unfold boxY0
  simp only [← plane_apply]
  unfold_payloads
  pointwise
  rfl

theorem boxX1_apply (x : Vec Ideal S12x4x5120 .f32) (r : Fin 80) (n : Fin 5120) :
    boxX1 x (ix2 r n) = decode (fun i => x (ix3 i (batch r) n)) 2 := by
  unfold boxX1
  simp only [← plane_apply]
  unfold_payloads
  pointwise
  rfl

theorem boxY1_apply (x : Vec Ideal S12x4x5120 .f32) (r : Fin 80) (n : Fin 5120) :
    boxY1 x (ix2 r n) = decode (fun i => x (ix3 i (batch r) n)) 3 := by
  unfold boxY1
  simp only [← plane_apply]
  unfold_payloads
  pointwise
  rfl

/-- A row's boxes are its batch's, decoded. -/
theorem rowBox_apply (x : Vec Ideal S12x4x5120 .f32) (r : Fin 80) (n : Fin 5120) :
    rowBox (boxX0 x) (boxY0 x) (boxX1 x) (boxY1 x) r n = decode fun i => x (ix3 i (batch r) n) := by
  funext q
  fin_cases q
  · exact boxX0_apply x r n
  · exact boxY0_apply x r n
  · exact boxX1_apply x r n
  · exact boxY1_apply x r n

/-- An anchor's box, of the argument. -/
def boxOf (y : Vec Ideal S4x5000x33 .f32) (b : Fin 4) (n : Fin 5000) : Box :=
  decode fun i => y (ix3 b n (⟨21 + i.val, by have := i.isLt; omega⟩ : Fin 33))

/-- An anchor's score in a class, struck out where it is low. -/
def scoreOf (y : Vec Ideal S4x5000x33 .f32) (b : Fin 4) (c : Fin 20) (n : Fin 5000) : EReal :=
  if TH < y (ix3 b n (⟨1 + c.val, by have := c.isLt; omega⟩ : Fin 33)) then y (ix3 b n (⟨1 + c.val, by have := c.isLt; omega⟩ : Fin 33)) else NEG

theorem scoreOf_inPlay (y : Vec Ideal S4x5000x33 .f32) (b : Fin 4) (c : Fin 20) : InPlay (scoreOf y b c) := by
  intro n
  unfold scoreOf
  split
  · exact .inr ‹_›
  · exact .inl rfl

theorem batch_row (b : Fin 4) (c : Fin 20) : batch (row b c) = b := Fin.ext (by have := c.isLt; show (b.val * 20 + c.val) / 20 = b.val; omega)

theorem rowBox_wide (y : Vec Ideal S4x5000x33 .f32) (b : Fin 4) (c : Fin 20) (n : Fin 5000) :
    rowBox (boxX0 (boxIn y)) (boxY0 (boxIn y)) (boxX1 (boxIn y)) (boxY1 (boxIn y)) (row b c) (wide n) = boxOf y b n := by
  rw [rowBox_apply, batch_row]
  unfold boxOf
  congr 1
  funext i
  rw [boxIn_apply, wideIn_apply]
  exact dif_pos n.isLt

theorem scores_padded (y : Vec Ideal S4x5000x33 .f32) (b : Fin 4) (c : Fin 20) :
    Padded (scoreOf y b c) (rowOf (highScores (scIn y)) (row b c)) where
  same n := by
    show highScores (scIn y) (ix2 (row b c) (wide n)) = _
    rw [highScores_apply, scIn_apply, wideIn_apply, dif_pos (show (wide n).val < 5000 from n.isLt)]
    rfl
  rest n hn := by
    show highScores (scIn y) (ix2 (row b c) n) = _
    rw [highScores_apply, scIn_apply, wideIn_apply, dif_neg (by omega)]
    exact if_neg zero_lt_th.not_gt

/-- The first grid program's picks are the plain rounds'. -/
theorem nms_apply (y : Vec Ideal S4x5000x33 .f32) (hself : ∀ b n, OVER ≤ iou (boxOf y b n) (boxOf y b n))
    (q : Fin 5) (k : Fin 100) (b : Fin 4) (c : Fin 20) :
    nmsOut (scIn y) (boxIn y) (ix3 q k (row b c)) = roundGives (boxOf y b) (scoreOf y b c) k.val q :=
  picks_given (fun r n => boxArea_apply (boxIn y) r n) (_, highScores (scIn y)) (firstBest_best _ _ _ _ _) (row b c) (rowBox_wide y b c) (hself b)
    (scoreOf_inPlay y b c) (scores_padded y b c) q k

end Cert.Proof.Re

end
-- ==== Proof.Math.Ranked.lean ====
/- Taking the first greatest of a list again and again is a stable sort, the greatest first. -/
module

public import proofs.«01_k».proof.Proof.Math.Rounds
public import Idealize.ShloMosaic.Lib.SortFacts

@[expose] public section

noncomputable section

namespace Cert.Proof

open Idealize.ShloMosaic

/-- `i` comes before `j`: it is greater, or as great and earlier. -/
def Ahead {n : ℕ} (f : Fin n → EReal) (i j : Fin n) : Prop := f j < f i ∨ (f j = f i ∧ i < j)

theorem Ahead.ne {n : ℕ} {f : Fin n → EReal} {i j : Fin n} (h : Ahead f i j) : i ≠ j := by
  rintro rfl
  rcases h with h | h
  · exact lt_irrefl _ h
  · exact lt_irrefl _ h.2

theorem Ahead.le {n : ℕ} {f : Fin n → EReal} {i j : Fin n} (h : Ahead f i j) : f j ≤ f i := h.elim le_of_lt fun e => e.1.le

section Sorting

variable {n : ℕ} (f : Fin n → EReal) (R : Fin n → Fin n → Bool) (hR : ∀ i j, R i j = true ↔ f j < f i)
include hR

theorem insert_ahead (a : Fin n) (l : List (Fin n)) (hl : l.Pairwise (Ahead f)) (ha : ∀ b ∈ l, a < b) :
    (insertBefore R a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih hl.2 fun d hd => ha d (List.mem_cons_of_mem _ hd)⟩
      rcases List.mem_cons.mp ((perm_insertBefore R a l).mem_iff.mp hc) with rfl | hc'
      · exact .inl ((hR _ _).mp h)
      · exact hl.1 c hc'
    · rename_i h
      have hba : f b ≤ f a := not_lt.mp fun e => h ((hR _ _).mpr e)
      refine List.pairwise_cons.mpr ⟨fun c hc => ?_, List.pairwise_cons.mpr hl⟩
      have hcb : f c ≤ f b := by
        rcases List.mem_cons.mp hc with rfl | hc'
        · exact le_rfl
        · exact (hl.1 c hc').le
      rcases lt_or_eq_of_le (hcb.trans hba) with e | e
      · exact .inl e
      · exact .inr ⟨e, ha c hc⟩

theorem sort_ahead (l : List (Fin n)) (hl : l.Pairwise (· < ·)) : (stableSort R l).Pairwise (Ahead f) := by
  induction l with
  | nil => exact List.Pairwise.nil
  | cons a l ih =>
    rw [List.pairwise_cons] at hl
    unfold stableSort
    exact insert_ahead f R hR a _ (ih hl.2) fun b hb => hl.1 b ((perm_stableSort R l).mem_iff.mp hb)

/-- A stable sort by "greater" lists the places in that order. -/
theorem sortedFrom_ahead (i j : Fin n) (hij : i < j) : Ahead f (sortedFrom R i) (sortedFrom R j) := by
  have hp := List.pairwise_iff_get.mp (sort_ahead f R hR (List.finRange n) (List.pairwise_lt_finRange n))
  exact hp (i.cast (length_sortPositions n R).symm) (j.cast (length_sortPositions n R).symm) hij

end Sorting

/-- What is left after the first greatest is struck out `k` times. -/
def left {n : ℕ} (s : Fin (n + 1) → EReal) : ℕ → Fin (n + 1) → EReal
  | 0 => s
  | k + 1 => fun p => if p = best (left s k) then NEG else left s k p

/-- A place in the list of 2000, as one of the kernel's 2048. -/
abbrev longer (p : Fin 2000) : Fin 2048 := p.castLE (by norm_num)

section Take

variable {f : Fin 2000 → EReal} (hf : ∀ p, NEG < f p) {s : Fin 2048 → EReal} (hs : ∀ p, s (longer p) = f p)
  (hr : ∀ p : Fin 2048, 2000 ≤ p.val → s p = NEG) {σ : Fin 2000 → Fin 2000} (hσ : Function.Surjective σ)
  (ho : ∀ i j, i < j → Ahead f (σ i) (σ j))
include hf hs hr hσ ho

theorem first_left (k : ℕ) (hk : k < 2000) (h : ∀ j, left s k (longer (σ j)) = if j.val < k then NEG else f (σ j))
    (h' : ∀ p : Fin 2048, 2000 ≤ p.val → left s k p = NEG) : best (n := 2047) (left s k) = longer (σ ⟨k, hk⟩) := by
  refine (best_first _).unique ⟨fun p => ?_, fun p hp => ?_⟩
  · rw [h ⟨k, hk⟩, if_neg (lt_irrefl k)]
    by_cases hp : p.val < 2000
    · obtain ⟨j, hj⟩ := hσ ⟨p.val, hp⟩
      have hpj : p = longer (σ j) := by rw [hj]; rfl
      rw [hpj, h j]
      split
      · exact (hf _).le
      · rename_i hjk
        rcases lt_or_eq_of_le (not_lt.mp hjk) with e | e
        · exact (ho ⟨k, hk⟩ j e).le
        · exact le_of_eq (congrArg (fun t => f (σ t)) (Fin.ext e.symm))
    · rw [h' p (not_lt.mp hp)]
      exact (hf _).le
  · rw [h ⟨k, hk⟩, if_neg (lt_irrefl k)]
    have hp' : p.val < 2000 := lt_trans (Fin.lt_def.mp hp) (σ ⟨k, hk⟩).isLt
    obtain ⟨j, hj⟩ := hσ ⟨p.val, hp'⟩
    have hpj : p = longer (σ j) := by rw [hj]; rfl
    rw [hpj, h j]
    split
    · exact hf _
    · rename_i hjk
      rcases lt_or_eq_of_le (not_lt.mp hjk) with e | e
      · rcases ho ⟨k, hk⟩ j e with h1 | h1
        · exact h1
        · refine absurd h1.2 (not_lt.mpr (le_of_lt ?_))
          rw [hj]
          exact Fin.lt_def.mpr (Fin.lt_def.mp hp)
      · refine absurd hp ?_
        rw [hpj, show j = ⟨k, hk⟩ from Fin.ext e.symm]
        exact lt_irrefl _

theorem left_ranked : ∀ k, k ≤ 2000 → (∀ j, left s k (longer (σ j)) = if j.val < k then NEG else f (σ j))
    ∧ ∀ p : Fin 2048, 2000 ≤ p.val → left s k p = NEG
  | 0, _ => ⟨fun j => (hs _).trans (if_neg (Nat.not_lt_zero _)).symm, hr⟩
  | k + 1, hk => by
    obtain ⟨h, h'⟩ := left_ranked k (by omega)
    have hb := first_left hf hs hr hσ ho k (by omega) h h'
    refine ⟨fun j => ?_, fun p hp => ?_⟩
    · show (if longer (σ j) = best (n := 2047) (left s k) then NEG else left s k (longer (σ j))) = _
      rw [hb, h j]
      by_cases e : j.val = k
      · rw [if_pos (by rw [show j = ⟨k, by omega⟩ from Fin.ext e]), if_pos (by omega)]
      · rw [if_neg]
        · by_cases hjk : j.val < k
          · rw [if_pos hjk, if_pos (by omega)]
          · rw [if_neg hjk, if_neg (by omega)]
        · intro hl
          have hl' : σ j = σ ⟨k, by omega⟩ := Fin.ext (show (σ j).val = (σ ⟨k, by omega⟩).val from congrArg (fun z : Fin 2048 => z.val) hl)
          rcases lt_or_gt_of_ne e with e' | e'
          · exact (ho j ⟨k, by omega⟩ e').ne hl'
          · exact (ho ⟨k, by omega⟩ j e').ne hl'.symm
    · show (if p = best (n := 2047) (left s k) then NEG else left s k p) = _
      rw [h' p hp, ite_self]

/-- The place taken at round `k` is the `k`-th of the sort, with its own score. -/
theorem taken (k : ℕ) (hk : k < 2000) :
    best (n := 2047) (left s k) = longer (σ ⟨k, hk⟩) ∧ left s k (longer (σ ⟨k, hk⟩)) = f (σ ⟨k, hk⟩) := by
  obtain ⟨h, h'⟩ := left_ranked hf hs hr hσ ho k hk.le
  exact ⟨first_left hf hs hr hσ ho k hk h h', (h _).trans (if_neg (lt_irrefl k))⟩

end Take

end Cert.Proof

end
-- ==== Proof.Math.Segments.lean ====
/- Extremes over rows of lanes, and selections by a word's equality or by several bits. -/
module

public import proofs.«01_k».proof.Proof.Math.Pick
public import proofs.«01_k».proof.Proof.Math.Select

@[expose] public section

noncomputable section

namespace Cert.Proof

open Idealize.ShloMosaic

/-- The greatest over rows of lanes, given where it is, -/
theorem fold_max_rows {ι κ : Type} [Fintype ι] [Fintype κ] (g : ι → κ → EReal) (i : ι) (l : κ) (h : ∀ i' l', g i' l' ≤ g i l) :
    (Finset.univ : Finset ι).fold max ⊥ (fun i' => (Finset.univ : Finset κ).fold max ⊥ (g i')) = g i l := by
  haveI : Nonempty κ := ⟨l⟩
  rw [fold_max_eq _ i fun i' => ?_, fold_max_eq (g i) l (h i)]
  obtain ⟨k, hk, _⟩ := fold_max (g i')
  rw [hk, fold_max_eq (g i) l (h i)]
  exact h i' k

/-- and the least position among those that satisfy `p`. -/
theorem min_rows {ι κ : Type} [Fintype ι] [Fintype κ] (p : ι → κ → Prop) [∀ i l, Decidable (p i l)] (pos : ι → κ → ℕ)
    (hpos : ∀ i l, pos i l < 1000000000) (i : ι) (l : κ) (hp : p i l) (h : ∀ i' l', p i' l' → pos i l ≤ pos i' l') :
    (Finset.univ : Finset ι).fold min ⊤ (fun i' => (Finset.univ : Finset κ).fold min ⊤ fun l' => if p i' l' then nat (pos i' l') else BIG)
      = nat (pos i l) := by
  haveI : Nonempty ι := ⟨i⟩
  haveI : Nonempty κ := ⟨l⟩
  have hle : ∀ i' l', nat (pos i l) ≤ if p i' l' then nat (pos i' l') else BIG := fun i' l' => by
    split
    · exact nat_le.mpr (h i' l' ‹_›)
    · exact (nat_lt_big (hpos i l)).le
  obtain ⟨i₀, hi₀, hi₀'⟩ := fold_min fun i' => (Finset.univ : Finset κ).fold min ⊤ fun l' => if p i' l' then nat (pos i' l') else BIG
  obtain ⟨l₀, hl₀, _⟩ := fold_min fun l' => if p i₀ l' then nat (pos i₀ l') else BIG
  obtain ⟨l₁, hl₁, hl₁'⟩ := fold_min fun l' => if p i l' then nat (pos i l') else BIG
  rw [hi₀]
  refine le_antisymm ((hi₀' i).trans ?_) ?_
  · show (Finset.univ : Finset κ).fold min ⊤ (fun l' => if p i l' then nat (pos i l') else BIG) ≤ _
    rw [hl₁]
    exact (hl₁' l).trans_eq (if_pos hp)
  · show _ ≤ (Finset.univ : Finset κ).fold min ⊤ (fun l' => if p i₀ l' then nat (pos i₀ l') else BIG)
    rw [hl₀]
    exact hle _ _

/-- Small naturals are equal where their words are. -/
theorem word_beq (a b : ℕ) (ha : a < 2 ^ 31) (hb : b < 2 ^ 31) : (BitVec.ofNat 32 a == BitVec.ofNat 32 b) = decide (a = b) := by
  rw [Bool.eq_iff_iff, beq_iff_eq, decide_eq_true_iff]
  constructor
  · intro h
    have := congrArg BitVec.toNat h
    rw [BitVec.toNat_ofNat, BitVec.toNat_ofNat] at this
    omega
  · intro h
    rw [h]

theorem select_word_eq {α : Type} (a b : ℕ) (ha : a < 2 ^ 31) (hb : b < 2 ^ 31) (x y : α) :
    Scalar.select (IntOp.cmpi .eq (BitVec.ofNat 32 a) (BitVec.ofNat 32 b)) x y = if a = b then x else y := by
  show Scalar.select (BitVec.ofBool (BitVec.ofNat 32 a == BitVec.ofNat 32 b)) x y = _
  rw [word_beq a b ha hb]
  exact select_bool (a = b) x y

/-- A bit made of three conditions selects like them, -/
theorem select_or_and {α : Type} (p q r : Prop) [Decidable p] [Decidable q] [Decidable r] (x y : α) :
    Scalar.select ((BitVec.ofBool (decide p) ||| BitVec.ofBool (decide q)) &&& BitVec.ofBool (decide r)) x y = if (p ∨ q) ∧ r then x else y := by
  unfold Scalar.select
  by_cases hp : p <;> by_cases hq : q <;> by_cases hr : r <;> simp [hp, hq, hr]

/-- and so does a bit made of two. -/
theorem select_and {α : Type} (p q : Prop) [Decidable p] [Decidable q] (x y : α) :
    Scalar.select (BitVec.ofBool (decide p) &&& BitVec.ofBool (decide q)) x y = if p ∧ q then x else y := by
  unfold Scalar.select
  by_cases hp : p <;> by_cases hq : q <;> simp [hp, hq]

end Cert.Proof

end
-- ==== Proof.Re.TopKValue.lean ====
/- The second grid program's rounds, read at an index: each takes the first greatest score of a batch. -/
module

public import proofs.«01_k».proof.Proof.Re.TopK
public import proofs.«01_k».proof.Proof.Math.Ranked
public import proofs.«01_k».proof.Proof.Math.Segments
public import Idealize.ShloMosaic.Lib.Pointwise.Tactic
public import Idealize.ShloMosaic.Lib.Pointwise.Reduce
public import Idealize.ShloMosaic.Lib.Pointwise.Reshape
public import Idealize.ShloMosaic.Lib.Pointwise.Select

@[expose] public section

set_option maxRecDepth 16384

noncomputable section

namespace Cert.Proof.Re

open Cert.KernelIdeal Cert.KernelIdeal.Gen
open Idealize.ShloMosaic Idealize.ShloMosaic.TcCoe

/-! ## A batch's sixteen rows of lanes as one list of 2048 places -/

/-- Row `i` of the sixteen rows of the batch that row `r` is of. -/
abbrev segRow (r : Fin 64) (i : Fin 16) : Fin 64 := ⟨r.val / 16 * 16 + i.val, by have := r.isLt; have := i.isLt; omega⟩

/-- A place's row among the sixteen, -/
abbrev placeRow (p : Fin 2048) : Fin 16 := ⟨p.val / 128, by have := p.isLt; omega⟩

/-- and its lane. -/
abbrev placeLane (p : Fin 2048) : Fin 128 := ⟨p.val % 128, Nat.mod_lt _ (by norm_num)⟩

/-- The place of a row and lane. -/
abbrev place (i : Fin 16) (l : Fin 128) : Fin 2048 := ⟨i.val * 128 + l.val, by have := i.isLt; have := l.isLt; omega⟩

/-- The list of the batch that row `r` is of. -/
def seg (sc : FVec Ideal S64x128 .f32) (r : Fin 64) (p : Fin 2048) : EReal := sc (ix2 (segRow r (placeRow p)) (placeLane p))

theorem seg_place (sc : FVec Ideal S64x128 .f32) (r : Fin 64) (i : Fin 16) (l : Fin 128) : seg sc r (place i l) = sc (ix2 (segRow r i) l) := by
  have hi := i.isLt
  have hl := l.isLt
  exact congrArg₂ (fun (a : Fin 64) (b : Fin 128) => sc (ix2 a b))
    (Fin.ext (by show r.val / 16 * 16 + (i.val * 128 + l.val) / 128 = r.val / 16 * 16 + i.val; omega))
    (Fin.ext (by show (i.val * 128 + l.val) % 128 = l.val; omega))

/-- A row is its batch's, at its own place among the sixteen. -/
theorem segRow_self (r : Fin 64) : segRow r ⟨r.val % 16, Nat.mod_lt _ (by norm_num)⟩ = r :=
  Fin.ext (by show r.val / 16 * 16 + r.val % 16 = r.val; omega)

/-- Rows of one batch have one list. -/
theorem seg_segRow (sc : FVec Ideal S64x128 .f32) (r : Fin 64) (i : Fin 16) : seg sc (segRow r i) = seg sc r := by
  have hi := i.isLt
  funext p
  exact congrArg (fun a : Fin 64 => sc (ix2 a (placeLane p)))
    (Fin.ext (by show (r.val / 16 * 16 + i.val) / 16 * 16 + p.val / 128 = r.val / 16 * 16 + p.val / 128; omega))

/-- The place taken in the batch that row `r` is of. -/
def won (sc : FVec Ideal S64x128 .f32) (r : Fin 64) : Fin 2048 := best (n := 2047) (seg sc r)

theorem won_first (sc : FVec Ideal S64x128 .f32) (r : Fin 64) : First (seg sc r) (won sc r) := best_first _

theorem won_segRow (sc : FVec Ideal S64x128 .f32) (r : Fin 64) (i : Fin 16) : won sc (segRow r i) = won sc r := by
  unfold won
  rw [seg_segRow]

/-! ## The pieces of a round -/

/-- The greatest score of a row's batch, as the kernel folds it, -/
theorem top_folds (sc : FVec Ideal S64x128 .f32) (r : Fin 64) : k1_pay7 sc (ix2 r (0 : Fin 1))
    = (Finset.univ : Finset (Fin 16)).fold max (Ideal.ofBits .f32 0xFF800000#32) (fun i =>
      (Finset.univ : Finset (Fin 128)).fold max (Ideal.ofBits .f32 0xFF800000#32) fun l => sc (ix2 (segRow r i) l)) := by
  unfold k1_pay7
  pointwise

/-- and where it is. -/
theorem top_apply (sc : FVec Ideal S64x128 .f32) (r : Fin 64) : k1_pay7 sc (ix2 r (0 : Fin 1)) = seg sc r (won sc r) := by
  rw [top_folds, wbot_eq]
  refine (fold_max_rows (fun (i : Fin 16) (l : Fin 128) => sc (ix2 (segRow r i) l)) (placeRow (won sc r)) (placeLane (won sc r)) fun i l => ?_)
  show sc (ix2 (segRow r i) l) ≤ seg sc r (won sc r)
  rw [← seg_place sc r i l]
  exact (won_first sc r).top _

theorem rowStart_apply (r : Fin 64) : rowStart (F := Ideal) (ix2 r (0 : Fin 1)) = nat (r.val % 16 * 128) := by
  show k1_pay21 (F := Ideal) (ix2 r (0 : Fin 1)) = _
  unfold k1_pay21
  pointwise
  refine Eq.trans (congrArg (FloatOps.sitofp (F := Ideal) .f32) ?_) (sitofp_nat (r.val % 16 * 128) (by omega))
  revert r
  decide

theorem laneNumber_apply (r : Fin 64) (l : Fin 128) : k1_pay20 (F := Ideal) (ix2 r l) = nat l.val := by
  unfold k1_pay20
  pointwise
  exact sitofp_nat l.val (by have := l.isLt; omega)

/-- The position the kernel keeps, as it folds it, -/
theorem pickAt_folds (sc : FVec Ideal S64x128 .f32) (r : Fin 64) : pickAt sc (ix2 r (0 : Fin 1))
    = (Finset.univ : Finset (Fin 16)).fold min (Ideal.ofBits .f32 0x7F800000#32) (fun i =>
      (Finset.univ : Finset (Fin 128)).fold min (Ideal.ofBits .f32 0x7F800000#32) fun l =>
        if sc (ix2 (segRow r i) l) = k1_pay7 sc (ix2 (segRow r i) (0 : Fin 1))
        then rowStart (F := Ideal) (ix2 (segRow r i) (0 : Fin 1)) + k1_pay20 (F := Ideal) (ix2 (segRow r i) l) else BIG) := by
  unfold pickAt k1_pay8
  pointwise

/-- and where it is: at the first greatest. -/
theorem pickAt_apply (sc : FVec Ideal S64x128 .f32) (r : Fin 64) : pickAt sc (ix2 r (0 : Fin 1)) = nat (won sc r).val := by
  have hw := (won sc r).isLt
  rw [pickAt_folds, wtop_eq]
  have key : ∀ (i : Fin 16) (l : Fin 128), (if sc (ix2 (segRow r i) l) = k1_pay7 sc (ix2 (segRow r i) (0 : Fin 1))
      then rowStart (F := Ideal) (ix2 (segRow r i) (0 : Fin 1)) + k1_pay20 (F := Ideal) (ix2 (segRow r i) l) else BIG)
      = if seg sc r (place i l) = seg sc r (won sc r) then nat (i.val * 128 + l.val) else BIG := fun i l => by
    have hi := i.isLt
    rw [top_apply, seg_segRow, won_segRow, seg_place, rowStart_apply, laneNumber_apply]
    refine if_congr Iff.rfl ?_ rfl
    rw [show (segRow r i).val % 16 = i.val by show (r.val / 16 * 16 + i.val) % 16 = i.val; omega]
    unfold nat
    rw [← EReal.coe_add]
    congr 1
    push_cast
    ring
  refine (congrArg (Finset.fold min ⊤ · (Finset.univ : Finset (Fin 16))) (funext fun i =>
    congrArg (Finset.fold min ⊤ · (Finset.univ : Finset (Fin 128))) (funext fun l => key i l))).trans ?_
  have hpl : place (placeRow (won sc r)) (placeLane (won sc r)) = won sc r :=
    Fin.ext (by show (won sc r).val / 128 * 128 + (won sc r).val % 128 = (won sc r).val; omega)
  refine (min_rows (fun (i : Fin 16) (l : Fin 128) => seg sc r (place i l) = seg sc r (won sc r)) (fun i l => i.val * 128 + l.val)
    (fun i l => by have := i.isLt; have := l.isLt; omega) (placeRow (won sc r)) (placeLane (won sc r)) ?_ fun i l hil => ?_).trans ?_
  · rw [hpl]
  · by_contra hlt
    have hlt' : place i l < won sc r := by
      refine Fin.lt_def.mpr ?_
      show i.val * 128 + l.val < (won sc r).val
      have : (placeRow (won sc r)).val * 128 + (placeLane (won sc r)).val = (won sc r).val := congrArg Fin.val hpl
      omega
    exact absurd hil (ne_of_lt ((won_first sc r).before _ hlt'))
  · exact congrArg nat (congrArg Fin.val hpl)

/-- Where the row of the place taken starts, -/
theorem pickStart_apply (sc : FVec Ideal S64x128 .f32) (r : Fin 64) :
    k1_pay9 k1_pay20 rowStart sc (ix2 r (0 : Fin 1)) = nat ((won sc r).val / 128 * 128) := by
  rw [← base_of, ← pickAt_apply]
  unfold k1_pay9 pickAt
  pointwise

/-- its lane, -/
theorem pickLane1_apply (sc : FVec Ideal S64x128 .f32) (r : Fin 64) :
    k1_pay10 k1_pay20 rowStart sc (ix2 r (0 : Fin 1)) = BitVec.ofNat 32 ((won sc r).val % 128) := by
  rw [← int_of _ (Nat.mod_lt _ (by norm_num)), ← off_of, ← pickStart_apply, ← pickAt_apply]
  unfold k1_pay10 pickAt
  pointwise
  rfl

/-- and whether a row is its row. -/
theorem pickRow1_apply (sc : FVec Ideal S64x128 .f32) (r : Fin 64) :
    k1_pay11 k1_pay20 rowStart sc (ix2 r (0 : Fin 1)) = BitVec.ofBool (decide (r.val % 16 = (won sc r).val / 128)) := by
  unfold k1_pay11
  pointwise
  rw [rowStart_apply, pickStart_apply]
  congr 1
  refine decide_eq_decide.mpr ?_
  rw [nat_inj]
  omega

/-- What is read off a plane at the lane of the place taken. -/
theorem taken_apply (f : FVec Ideal S64x128 .f32) (v82 : IVec S64x1 32) (r : Fin 64) (l : Fin 128)
    (h : v82 (ix2 r (0 : Fin 1)) = BitVec.ofNat 32 l.val) : k1_pay16 (F := Ideal) f v82 (ix2 r (0 : Fin 1)) = f (ix2 r l) := by
  unfold k1_pay16
  pointwise
  exact congrArg (fun a : Fin 128 => f (ix2 r a)) (Fin.ext ((congrArg (fun w : BitVec 32 =>
    (Scalar.select (IntOp.cmpi CmpIPredicate.slt w 0#32) (IntOp.addi w 128#32) w).toNat % 128) h).trans (lane_of l.val l.isLt)))

/-- The value of the row of the place taken, spread over its batch. -/
theorem spread_eq (sel : Fin 16 → BitVec 1) (v : Fin 16 → EReal) (w : Fin 16) (hsel : ∀ i, sel i = BitVec.ofBool (decide (i = w)))
    (hv : NEG ≤ v w) : (Finset.univ : Finset (Fin 16)).fold max ⊥ (fun i => Scalar.select (sel i) (v i) NEG) = v w := by
  have e : (fun i => Scalar.select (sel i) (v i) NEG) = fun i => if i = w then v i else NEG := funext fun i => by
    rw [hsel, select_bool]
  rw [e, fold_max_eq _ w fun i => ?_, if_pos rfl]
  rw [if_pos rfl]
  split
  · rename_i h
    rw [h]
  · exact hv

end Cert.Proof.Re

end
-- ==== Proof.Re.TopKRounds.lean ====
/- The second grid program's hundred rounds: lane `t` of each result row is what the place taken at round `t` gives. -/
module

public import proofs.«01_k».proof.Proof.Re.TopKValue
public import Idealize.ShloMosaic.Lib.Pipeline.ValueKit

@[expose] public section

set_option maxRecDepth 16384

noncomputable section

namespace Cert.Proof.Re

open Cert.KernelIdeal Cert.KernelIdeal.Gen
open Idealize.ShloMosaic Idealize.ShloMosaic.TcCoe

/-! ## One round -/

/-- The feature plane at the place taken, in every row of its batch. -/
abbrev featureOf (f sc : FVec Ideal S64x128 .f32) : FVec Ideal S64x1 .f32 :=
  k1_pay17 (F := Ideal) (k1_pay11 k1_pay20 rowStart sc) (k1_pay16 f (k1_pay10 k1_pay20 rowStart sc))

/-- The scores with the place taken struck out. -/
abbrev unpicked (sc : FVec Ideal S64x128 .f32) : FVec Ideal S64x128 .f32 :=
  k1_pay35 sc (pickAt sc) (k1_pay9 k1_pay20 rowStart sc) (k1_pay11 k1_pay20 rowStart sc)

/-- A round reads its four feature planes alike. -/
theorem trip_eq (g0 g1 g2 g3 : Vec Ideal S1x64x128 .f32) (k : Fin k1_t1_loop.trips) (sc o0 o1 o2 o3 o4 o5 : FVec Ideal S64x128 .f32) :
    trip g0 g1 g2 g3 k (sc, o0, o1, o2, o3, o4, o5) = (unpicked sc, k1_pay29 o0 (BitVec.ofNat 32 k.val) (pickAt sc),
      k1_pay30 o1 (BitVec.ofNat 32 k.val) (k1_pay7 sc), k1_pay30 o2 (BitVec.ofNat 32 k.val) (featureOf (k1_pay22 g0) sc),
      k1_pay30 o3 (BitVec.ofNat 32 k.val) (featureOf (k1_pay22 g1) sc), k1_pay30 o4 (BitVec.ofNat 32 k.val) (featureOf (k1_pay22 g2) sc),
      k1_pay30 o5 (BitVec.ofNat 32 k.val) (featureOf (k1_pay22 g3) sc)) := by
  have ht : Scf.iv 0#32 1#32 k = BitVec.ofNat 32 k.val := by
    unfold Scf.iv
    rw [BitVec.mul_one, BitVec.zero_add]
  unfold trip
  rw [ht]
  rfl

theorem feature_folds (f sc : FVec Ideal S64x128 .f32) (r : Fin 64) : featureOf f sc (ix2 r (0 : Fin 1))
    = (Finset.univ : Finset (Fin 16)).fold max (Ideal.ofBits .f32 0xFF800000#32) fun i =>
      Scalar.select (k1_pay11 (F := Ideal) k1_pay20 rowStart sc (ix2 (segRow r i) (0 : Fin 1)))
        (k1_pay16 (F := Ideal) f (k1_pay10 k1_pay20 rowStart sc) (ix2 (segRow r i) (0 : Fin 1))) NEG := by
  unfold featureOf k1_pay17
  pointwise

theorem feature_apply (f sc : FVec Ideal S64x128 .f32) (r : Fin 64)
    (h : NEG ≤ f (ix2 (segRow r (placeRow (won sc r))) (placeLane (won sc r)))) :
    featureOf f sc (ix2 r (0 : Fin 1)) = f (ix2 (segRow r (placeRow (won sc r))) (placeLane (won sc r))) := by
  have hv : ∀ i, k1_pay16 (F := Ideal) f (k1_pay10 k1_pay20 rowStart sc) (ix2 (segRow r i) (0 : Fin 1))
      = f (ix2 (segRow r i) (placeLane (won sc r))) := fun i =>
    taken_apply f _ (segRow r i) (placeLane (won sc r)) (by rw [pickLane1_apply, won_segRow])
  rw [feature_folds, wbot_eq, spread_eq _ _ (placeRow (won sc r)) (fun i => ?_) (by rw [hv]; exact h), hv]
  rw [pickRow1_apply, won_segRow]
  refine congrArg BitVec.ofBool (decide_eq_decide.mpr ?_)
  have hi := i.isLt
  have e : (segRow r i).val % 16 = i.val := by show (r.val / 16 * 16 + i.val) % 16 = i.val; omega
  rw [e, Fin.ext_iff]

/-- A column's values put in lane `k`. -/
theorem put_apply (o : FVec Ideal S64x128 .f32) (k : ℕ) (hk : k < 128) (v : FVec Ideal S64x1 .f32) (r : Fin 64) (l : Fin 128) :
    k1_pay30 o (BitVec.ofNat 32 k) v (ix2 r l) = if l.val = k then v (ix2 r (0 : Fin 1)) else o (ix2 r l) := by
  have hl := l.isLt
  rw [← select_word_eq l.val k (by omega) (by omega)]
  unfold k1_pay30 k1_pay28
  pointwise

/-- The class of the place taken put in lane `k`. -/
theorem putClass_apply (o : FVec Ideal S64x128 .f32) (k : ℕ) (hk : k < 128) (v : FVec Ideal S64x1 .f32) (r : Fin 64) (l : Fin 128) (a : ℕ)
    (ha : a < 2000) (hv : v (ix2 r (0 : Fin 1)) = nat a) :
    k1_pay29 o (BitVec.ofNat 32 k) v (ix2 r l) = if l.val = k then nat (a / 100 + 1) else o (ix2 r l) := by
  have hl := l.isLt
  rw [← select_word_eq l.val k (by omega) (by omega), ← class_of a ha, ← hv]
  unfold k1_pay29 k1_pay28
  pointwise

/-- The scores after a round, at an index. -/
theorem unpicked_apply (sc : FVec Ideal S64x128 .f32) (r : Fin 64) (l : Fin 128) : unpicked sc (ix2 r l)
    = if r.val % 16 = (won sc r).val / 128 ∧ nat l.val = nat ((won sc r).val % 128) then NEG else sc (ix2 r l) := by
  rw [← select_and, ← pickRow1_apply, ← off_of, ← pickStart_apply, ← pickAt_apply, ← laneNumber_apply r l]
  unfold unpicked k1_pay35
  pointwise
  rfl

/-- After a round the list has its first greatest struck out. -/
theorem seg_unpicked (sc : FVec Ideal S64x128 .f32) (r : Fin 64) (p : Fin 2048) :
    seg (unpicked sc) r p = if p = won sc r then NEG else seg sc r p := by
  have hp := p.isLt
  show unpicked sc (ix2 (segRow r (placeRow p)) (placeLane p)) = _
  rw [unpicked_apply, won_segRow]
  refine if_congr ?_ rfl rfl
  rw [nat_inj, Fin.ext_iff]
  have e : (segRow r (placeRow p)).val % 16 = p.val / 128 := by show (r.val / 16 * 16 + p.val / 128) % 16 = p.val / 128; omega
  have e' : (placeLane p).val = p.val % 128 := rfl
  rw [e, e']
  omega

/-! ## A hundred rounds -/

/-- A property of what a counted fold carries, kept by each step. -/
theorem foldl_keeps {α : Type} (P : ℕ → α → Prop) : ∀ (n : ℕ) (g : Fin n → α → α) (a : α), P 0 a → (∀ (k : Fin n) a, P k.val a → P (k.val + 1) (g k a)) →
    P n ((List.finRange n).foldl (fun a k => g k a) a)
  | 0, _, _, h, _ => by rw [List.finRange_zero]; exact h
  | n + 1, g, a, h, hs => by
    rw [List.finRange_succ_last, List.foldl_append, List.foldl_map]
    exact hs (Fin.last n) _ (foldl_keeps P n (fun k => g k.castSucc) a h fun k a hk => hs k.castSucc a hk)

/-- The place taken at round `t`. -/
def chosen (sc : FVec Ideal S64x128 .f32) (r : Fin 64) (t : ℕ) : Fin 2048 := best (n := 2047) (left (n := 2047) (seg sc r) t)

/-- After `k` rounds: the scores have the first `k` places struck out, and each result row has what each round gave. -/
structure After (sc : FVec Ideal S64x128 .f32) (g : Fin 4 → Vec Ideal S1x64x128 .f32) (k : ℕ) (a : Carry Ideal) : Prop where
  scores : ∀ r, seg a.1 r = left (n := 2047) (seg sc r) k
  classes : ∀ (r : Fin 64) (l : Fin 128), l.val < k → a.2.1 (ix2 r l) = nat ((chosen sc r l.val).val / 100 + 1)
  values : ∀ (r : Fin 64) (l : Fin 128), l.val < k → a.2.2.1 (ix2 r l) = left (n := 2047) (seg sc r) l.val (chosen sc r l.val)
  row0 : ∀ (r : Fin 64) (l : Fin 128), l.val < k →
    a.2.2.2.1 (ix2 r l) = k1_pay22 (g 0) (ix2 (segRow r (placeRow (chosen sc r l.val))) (placeLane (chosen sc r l.val)))
  row1 : ∀ (r : Fin 64) (l : Fin 128), l.val < k →
    a.2.2.2.2.1 (ix2 r l) = k1_pay22 (g 1) (ix2 (segRow r (placeRow (chosen sc r l.val))) (placeLane (chosen sc r l.val)))
  row2 : ∀ (r : Fin 64) (l : Fin 128), l.val < k →
    a.2.2.2.2.2.1 (ix2 r l) = k1_pay22 (g 2) (ix2 (segRow r (placeRow (chosen sc r l.val))) (placeLane (chosen sc r l.val)))
  row3 : ∀ (r : Fin 64) (l : Fin 128), l.val < k →
    a.2.2.2.2.2.2 (ix2 r l) = k1_pay22 (g 3) (ix2 (segRow r (placeRow (chosen sc r l.val))) (placeLane (chosen sc r l.val)))

/-- A lane written now or before. -/
theorem lane_cases {x new old want : EReal} {l k : ℕ} (hx : x = if l = k then new else old) (hl : l < k + 1)
    (hn : l = k → new = want) (ho : l < k → old = want) : x = want := by
  rw [hx]
  split
  · exact hn ‹_›
  · exact ho (by omega)

section Rounds

variable (sc : FVec Ideal S64x128 .f32) (g : Fin 4 → Vec Ideal S1x64x128 .f32)
  (hw : ∀ r t, t < 100 → (chosen sc r t).val < 2000)
  (hg : ∀ d r t, t < 100 → NEG ≤ k1_pay22 (F := Ideal) (g d) (ix2 (segRow r (placeRow (chosen sc r t))) (placeLane (chosen sc r t))))
include hw hg

theorem After.step (k : Fin k1_t1_loop.trips) (hk : k.val < 100) (a : Carry Ideal) (h : After sc g k.val a) :
    After sc g (k.val + 1) (trip (g 0) (g 1) (g 2) (g 3) k a) := by
  obtain ⟨s, o0, o1, o2, o3, o4, o5⟩ := a
  have hs : ∀ r, seg s r = left (n := 2047) (seg sc r) k.val := h.scores
  have hwon : ∀ r, won s r = chosen sc r k.val := fun r => by unfold won chosen; rw [hs]
  have hlane : ∀ (d : Fin 4) (o : FVec Ideal S64x128 .f32) (r : Fin 64) (l : Fin 128), l.val < k.val + 1 →
      (l.val < k.val → o (ix2 r l) = k1_pay22 (g d) (ix2 (segRow r (placeRow (chosen sc r l.val))) (placeLane (chosen sc r l.val)))) →
      k1_pay30 o (BitVec.ofNat 32 k.val) (featureOf (k1_pay22 (g d)) s) (ix2 r l)
        = k1_pay22 (g d) (ix2 (segRow r (placeRow (chosen sc r l.val))) (placeLane (chosen sc r l.val))) := fun d o r l hl ho => by
    refine lane_cases (put_apply o k.val (by omega) _ r l) hl (fun e => ?_) ho
    rw [feature_apply _ _ _ (by rw [hwon]; exact hg d r k.val hk), hwon, e]
  rw [trip_eq]
  refine ⟨fun r => ?_, fun r l hl => ?_, fun r l hl => ?_, fun r l hl => hlane 0 o2 r l hl (h.row0 r l), fun r l hl => hlane 1 o3 r l hl (h.row1 r l),
    fun r l hl => hlane 2 o4 r l hl (h.row2 r l), fun r l hl => hlane 3 o5 r l hl (h.row3 r l)⟩
  · funext p
    show seg (unpicked s) r p = if p = best (n := 2047) (left (n := 2047) (seg sc r) k.val) then NEG else left (n := 2047) (seg sc r) k.val p
    rw [seg_unpicked, hwon, hs]
    rfl
  · refine lane_cases (putClass_apply o0 k.val (by omega) _ r l (chosen sc r k.val).val (hw r k.val hk) ?_) hl (fun e => ?_) (h.classes r l)
    · rw [pickAt_apply, hwon]
    · rw [e]
  · refine lane_cases (put_apply o1 k.val (by omega) _ r l) hl (fun e => ?_) (h.values r l)
    rw [top_apply, hwon, hs, e]

/-- So after all of them. -/
theorem After.all (a : Carry Ideal) (ha : ∀ r, seg a.1 r = seg sc r) : After sc g 100 (Scf.fold (trip (g 0) (g 1) (g 2) (g 3)) a) := by
  have hn : k1_t1_loop.trips = 100 := by decide
  rw [Scf.fold_eq]
  have := foldl_keeps (fun k a => After sc g k a) k1_t1_loop.trips (trip (g 0) (g 1) (g 2) (g 3)) a
    ⟨ha, fun _ _ h => absurd h (Nat.not_lt_zero _), fun _ _ h => absurd h (Nat.not_lt_zero _), fun _ _ h => absurd h (Nat.not_lt_zero _),
      fun _ _ h => absurd h (Nat.not_lt_zero _), fun _ _ h => absurd h (Nat.not_lt_zero _), fun _ _ h => absurd h (Nat.not_lt_zero _)⟩
    fun k a hk => After.step sc g hw hg k (hn ▸ k.isLt) a hk
  exact hn ▸ this

end Rounds

/-! ## What the body leaves in its block -/

/-- A plane of features, of the block of four. -/
theorem feature0 (x1 : Vec Ideal S4x64x128 .f32) (r : Fin 64) (l : Fin 128) : k1_pay22 (F := Ideal) (View.ld x1 rF0) (ix2 r l) = x1 (ix3 (0 : Fin 4) r l) := by
  unfold k1_pay22
  pointwise

theorem feature1 (x1 : Vec Ideal S4x64x128 .f32) (r : Fin 64) (l : Fin 128) : k1_pay22 (F := Ideal) (View.ld x1 rF1) (ix2 r l) = x1 (ix3 (1 : Fin 4) r l) := by
  unfold k1_pay22
  pointwise

theorem feature2 (x1 : Vec Ideal S4x64x128 .f32) (r : Fin 64) (l : Fin 128) : k1_pay22 (F := Ideal) (View.ld x1 rF2) (ix2 r l) = x1 (ix3 (2 : Fin 4) r l) := by
  unfold k1_pay22
  pointwise

theorem feature3 (x1 : Vec Ideal S4x64x128 .f32) (r : Fin 64) (l : Fin 128) : k1_pay22 (F := Ideal) (View.ld x1 rF3) (ix2 r l) = x1 (ix3 (3 : Fin 4) r l) := by
  unfold k1_pay22
  pointwise

/-- The four planes. -/
abbrev planes (x1 : Vec Ideal S4x64x128 .f32) : Fin 4 → Vec Ideal S1x64x128 .f32 :=
  ![View.ld x1 rF0, View.ld x1 rF1, View.ld x1 rF2, View.ld x1 rF3]

theorem planes_apply (x1 : Vec Ideal S4x64x128 .f32) (d : Fin 4) (r : Fin 64) (l : Fin 128) :
    k1_pay22 (F := Ideal) (planes x1 d) (ix2 r l) = x1 (ix3 d r l) := by
  fin_cases d
  · exact feature0 x1 r l
  · exact feature1 x1 r l
  · exact feature2 x1 r l
  · exact feature3 x1 r l

/-- The result rows. -/
abbrev resultRow (a : Carry Ideal) : Fin 6 → FVec Ideal S64x128 .f32 := ![a.2.1, a.2.2.1, a.2.2.2.1, a.2.2.2.2.1, a.2.2.2.2.2.1, a.2.2.2.2.2.2]

/-- A row stored as a plane reads as the row. -/
theorem stored_apply (o : FVec Ideal S64x128 .f32) (q r l : ℕ) (hr : r < 64) (hl : l < 128) (x : S1x64x128.Idx) (h1 : r = 0 + (x 1).val)
    (h2 : l = 0 + (x 2).val) : k1_pay1 (F := Ideal) o x = o (ix2 (⟨r, hr⟩ : Fin 64) (⟨l, hl⟩ : Fin 128)) := by
  have hx : x = ix3 (0 : Fin 1) (⟨r, hr⟩ : Fin 64) (⟨l, hl⟩ : Fin 128) := funext fun a => by
    fin_cases a
    · exact Subsingleton.elim (α := Fin 1) _ _
    · exact Fin.ext (by show (x 1).val = r; omega)
    · exact Fin.ext (by show (x 2).val = l; omega)
  rw [hx]
  unfold k1_pay1
  pointwise

theorem out_apply (x0 : Vec Ideal S64x128 .f32) (x1 : Vec Ideal S4x64x128 .f32) (q : Fin 6) (r : Fin 64) (l : Fin 128) :
    out1_2 x0 x1 (ix3 q r l) = resultRow (carryEnd x0 x1) q (ix2 r l) := by
  unfold out1_2
  have tile : ∀ (d : Fin 6) (o : FVec Ideal S64x128 .f32) (off : Fin 3 → ℕ), off 0 = d.val → off 1 = 0 → off 2 = 0 → o = resultRow (carryEnd x0 x1) d →
      View.TileAt (Val := Elt Ideal) (S := S6x64x128) (e := .f32) (ix3 q r l) off S1x64x128.size (k1_pay1 (F := Ideal) o) (resultRow (carryEnd x0 x1) q (ix2 r l)) := by
    intro d o off h0 h1 h2 ho x hx
    have hx0 : (x 0).val < 1 := (x 0).isLt
    have e0 : q.val = off 0 + (x 0).val := hx 0
    have e1 : r.val = off 1 + (x 1).val := hx 1
    have e2 : l.val = off 2 + (x 2).val := hx 2
    have hq : q = d := Fin.ext (by omega)
    rw [hq, ← ho]
    exact stored_apply o 0 r.val l.val r.isLt l.isLt x (by omega) (by omega)
  refine View.canon_eq_of_allAt _ _ _ (cover1_2 _ _ _ _ _ _ _) ?_
  refine View.allAt_cons_unit _ _ _ _ _ (tile 5 _ _ rfl rfl rfl rfl) ?_
  refine View.allAt_cons_unit _ _ _ _ _ (tile 4 _ _ rfl rfl rfl rfl) ?_
  refine View.allAt_cons_unit _ _ _ _ _ (tile 3 _ _ rfl rfl rfl rfl) ?_
  refine View.allAt_cons_unit _ _ _ _ _ (tile 2 _ _ rfl rfl rfl rfl) ?_
  refine View.allAt_cons_unit _ _ _ _ _ (tile 1 _ _ rfl rfl rfl rfl) ?_
  exact View.allAt_cons_unit _ _ _ _ _ (tile 0 _ _ rfl rfl rfl rfl) (View.allAt_nil _ _)

/-- What the loop starts from are the block's scores. -/
theorem carry0_seg (x0 : Vec Ideal S64x128 .f32) (r : Fin 64) : seg (carry0 (View.ld x0 rIn)).1 r = seg x0 r := by
  have e : View.ld x0 rIn = x0 := View.ld_unit_lit _ x0 (by decide)
  rw [e]
  funext p
  show k1_pay27 x0 (ix2 (segRow r (placeRow p)) (placeLane p)) = x0 _
  unfold k1_pay27
  pointwise

/-- The block's rows, lane by lane: class, score and the four features of the place each round takes. -/
theorem out_rows (x0 : Vec Ideal S64x128 .f32) (x1 : Vec Ideal S4x64x128 .f32) (hw : ∀ r t, t < 100 → (chosen x0 r t).val < 2000)
    (hg : ∀ d r t, t < 100 → NEG ≤ x1 (ix3 d (segRow r (placeRow (chosen x0 r t))) (placeLane (chosen x0 r t)))) (r : Fin 64) (l : Fin 128) (hl : l.val < 100) :
    out1_2 x0 x1 (ix3 (0 : Fin 6) r l) = nat ((chosen x0 r l.val).val / 100 + 1)
      ∧ out1_2 x0 x1 (ix3 (1 : Fin 6) r l) = left (n := 2047) (seg x0 r) l.val (chosen x0 r l.val)
      ∧ ∀ d : Fin 4, out1_2 x0 x1 (ix3 (⟨2 + d.val, by have := d.isLt; omega⟩ : Fin 6) r l)
        = x1 (ix3 d (segRow r (placeRow (chosen x0 r l.val))) (placeLane (chosen x0 r l.val))) := by
  have h := After.all x0 (planes x1) hw (fun d r t ht => by rw [planes_apply]; exact hg d r t ht) (carry0 (View.ld x0 rIn)) (carry0_seg x0)
  refine ⟨(out_apply x0 x1 0 r l).trans (h.classes r l hl), (out_apply x0 x1 1 r l).trans (h.values r l hl), fun d => (out_apply x0 x1 _ r l).trans ?_⟩
  rw [← planes_apply x1 d]
  fin_cases d
  · exact h.row0 r l hl
  · exact h.row1 r l hl
  · exact h.row2 r l hl
  · exact h.row3 r l hl

end Cert.Proof.Re

end
-- ==== Proof.Re.TopKGlue.lean ====
/- What the host operations hand the second grid program and take from it, read at an index. -/
module

public import proofs.«01_k».proof.Proof.Re.Glue
public import proofs.«01_k».proof.Proof.Re.TopKRounds
public import Idealize.ShloMosaic.Lib.StableHlo.ReadAt
public import Idealize.ShloMosaic.Lib.Pipeline.ValueKit
public import Idealize.ShloMosaic.Lib.Pointwise.Tactic
public import Idealize.ShloMosaic.Lib.Pointwise.Reshape

@[expose] public section

set_option maxRecDepth 16384

noncomputable section

namespace Cert.Proof.Re

open Cert.KernelIdeal Cert.KernelIdeal.Gen
open Idealize.ShloMosaic Idealize.ShloMosaic.TcCoe Idealize.ShloMosaic.StableHlo

section Any

variable {F : FTy → Type} [FloatOps F]

/-- The picks of all classes of a batch in one list of 2000: class by class, each in the order picked. -/
def listed (N : Vec F S5x100x80 .f32) : Vec F S5x4x2000 .f32 :=
  shapeCast _ (transpose S5x4x20x100 [0, 2, 3, 1] (shapeCast S5x100x4x20 N shapeCasts_S5x100x80_S5x100x4x20) transposes_S5x100x4x20_S5x4x20x100_0_2_3_1)
    shapeCasts_S5x4x20x100_S5x4x2000

/-- The scores as the second grid program reads them, sixteen rows to a batch, -/
def topScores (N : Vec F S5x100x80 .f32) : Vec F S64x128 .f32 :=
  shapeCast _ (pad S4x2048 ![0, 0] ![0, 48] ![0, 0]
    (shapeCast S4x2000 (extractStridedSlice S1x4x2000 ![0, 0, 0] (listed N) slices_S5x4x2000_S1x4x2000_0_0_0) shapeCasts_S1x4x2000_S4x2000)
    (constant S_ .f32 0xCE6E6B28#32) pads_S4x2000_S4x2048_000_0480 h_S_) shapeCasts_S4x2048_S64x128

/-- and the four features. -/
def topFeatures (N : Vec F S5x100x80 .f32) : Vec F S4x64x128 .f32 :=
  shapeCast _ (pad S4x4x2048 ![0, 0, 0] ![0, 0, 48] ![0, 0, 0] (extractStridedSlice S4x4x2000 ![1, 0, 0] (listed N) slices_S5x4x2000_S4x4x2000_1_0_0)
    (sitofp .f32 (constantI S_ 32 0#32)) pads_S4x4x2000_S4x4x2048_000_000_0480 h_S_) shapeCasts_S4x4x2048_S4x64x128

/-- The result, of what the second grid program leaves. -/
def taken0 (O : Vec F S6x64x128 .f32) : Vec F S4x100x6 .f32 :=
  transpose S4x100x6 [1, 2, 0] (Host.slice S6x4x100 ![0, 0, 0] ![1, 16, 1] O slicesBy_S6x64x128_S6x4x100_0s1_0s16_0s1) transposes_S6x4x100_S4x100x6_1_2_0

variable (m : (ℓ : Loc nD τ sig) → Buf (Elt F) ℓ) (ρ : Dev nD → PrngReg)

theorem W3_scores (c : Dev nD) : W3 m ρ c (Proc.devRef .tc main_call0_v15) = topScores (W2 m ρ c (Proc.devRef .tc main_call0_v6)) := by
  after_reads_simp
  rfl

theorem W3_features (c : Dev nD) : W3 m ρ c (Proc.devRef .tc main_call0_v16) = topFeatures (W2 m ρ c (Proc.devRef .tc main_call0_v6)) := by
  after_reads_simp
  rfl

theorem W5_result (c : Dev nD) : W5 m ρ c (Proc.devRef .tc main_v0) = taken0 (W4 m ρ c (Proc.devRef .tc main_call0_v17)) := by
  after_reads_simp
  rfl

theorem block_topScores (c : Dev nD) (t : Fin cfg1.N) : iblk1 (V3 m ρ) c 0 t = topScores (W2 m ρ c (Proc.devRef .tc main_call0_v6)) := by
  rw [← W3_scores m ρ c]
  funext i
  unfold iblk1
  blk_simp
  exact congrArg (V3 m ρ c main_call0_v15) (funext fun a => Fin.ext (Pipeline.Window.rect_emb_val_of_index_zero win1_0 t a rfl i))

theorem block_topFeatures (c : Dev nD) (t : Fin cfg1.N) : iblk1 (V3 m ρ) c 1 t = topFeatures (W2 m ρ c (Proc.devRef .tc main_call0_v6)) := by
  rw [← W3_features m ρ c]
  funext i
  unfold iblk1
  blk_simp
  exact congrArg (V3 m ρ c main_call0_v16) (funext fun a => Fin.ext (Pipeline.Window.rect_emb_val_of_index_zero win1_1 t a rfl i))

/-- What the second grid program leaves. -/
theorem W4_rows (c : Dev nD) : W4 m ρ c (Proc.devRef .tc main_call0_v17)
    = out1_2 (topScores (W2 m ρ c (Proc.devRef .tc main_call0_v6))) (topFeatures (W2 m ρ c (Proc.devRef .tc main_call0_v6))) := by
  refine (W4_arr m ρ c 2).trans ?_
  refine (dat1 (V3 m ρ) c).arrAt_eq_of_covers 2 _ (by decide +kernel) fun t hf y => ?_
  blk_simp
  rw [after1_2]
  rw [block_topScores, block_topFeatures]
  exact congrArg (out1_2 _ _) (funext fun a => Fin.ext (Pipeline.Window.rect_emb_val_of_index_zero win1_2 t a rfl y).symm)

/-- The kernel's result, of its argument. -/
theorem W5_value (c : Dev nD) : W5 m ρ c (Proc.devRef .tc main_v0)
    = taken0 (out1_2 (topScores (nmsOut (scIn (m ((c : Thread nD τ).loc main_arg0))) (boxIn (m ((c : Thread nD τ).loc main_arg0)))))
      (topFeatures (nmsOut (scIn (m ((c : Thread nD τ).loc main_arg0))) (boxIn (m ((c : Thread nD τ).loc main_arg0)))))) := by
  rw [W5_result, W4_rows, W2_picks]

end Any

/-! ## At an index -/

/-- A place's class, -/
abbrev placeClass (p : Fin 2000) : Fin 20 := ⟨p.val / 100, by have := p.isLt; omega⟩

/-- and the round it was picked in. -/
abbrev placeRound (p : Fin 2000) : Fin 100 := ⟨p.val % 100, Nat.mod_lt _ (by norm_num)⟩

/-- The batch of one of the sixty-four rows. -/
abbrev rowBatch (r : Fin 64) : Fin 4 := ⟨r.val / 16, by have := r.isLt; omega⟩

theorem listed_apply (N : Vec Ideal S5x100x80 .f32) (q : Fin 5) (b : Fin 4) (p : Fin 2000) :
    listed N (ix3 q b p) = N (ix3 q (placeRound p) (row b (placeClass p))) := by
  have hb := b.isLt
  have hp := p.isLt
  unfold listed
  pointwise

/-- A row and lane of the scores: the place there, or nothing past the list's end. -/
theorem topScores_apply (N : Vec Ideal S5x100x80 .f32) (r : Fin 64) (l : Fin 128) : topScores N (ix2 r l)
    = if h : r.val / 16 < 4 ∧ r.val % 16 * 128 + l.val < 2000 then
        listed N (ix3 (0 : Fin 5) (⟨r.val / 16, h.1⟩ : Fin 4) (⟨r.val % 16 * 128 + l.val, h.2⟩ : Fin 2000)) else NEG := by
  unfold topScores
  pointwise

theorem topFeatures_lanes (N : Vec Ideal S5x100x80 .f32) (d : Fin 4) (r : Fin 64) (l : Fin 128) : topFeatures N (ix3 d r l)
    = if h : r.val / 16 < 4 ∧ r.val % 16 * 128 + l.val < 2000 then
        listed N (ix3 (⟨1 + d.val, by have := d.isLt; omega⟩ : Fin 5) (⟨r.val / 16, h.1⟩ : Fin 4) (⟨r.val % 16 * 128 + l.val, h.2⟩ : Fin 2000))
      else FloatOps.sitofp (F := Ideal) FTy.f32 (0#32) := by
  unfold topFeatures
  pointwise

/-- Reading a list at a place's row and lane. -/
theorem at_place {α : Type} (L : Fin 4 → Fin 2000 → α) (z : α) (r : Fin 64) (p : Fin 2048) :
    (if h : (segRow r (placeRow p)).val / 16 < 4 ∧ (segRow r (placeRow p)).val % 16 * 128 + (placeLane p).val < 2000 then
      L ⟨(segRow r (placeRow p)).val / 16, h.1⟩ ⟨(segRow r (placeRow p)).val % 16 * 128 + (placeLane p).val, h.2⟩ else z)
      = if h : p.val < 2000 then L (rowBatch r) ⟨p.val, h⟩ else z := by
  have hr := r.isLt
  have hp := p.isLt
  have e1 : (segRow r (placeRow p)).val / 16 = r.val / 16 := by show (r.val / 16 * 16 + p.val / 128) / 16 = r.val / 16; omega
  have e2 : (segRow r (placeRow p)).val % 16 * 128 + (placeLane p).val = p.val := by
    show (r.val / 16 * 16 + p.val / 128) % 16 * 128 + p.val % 128 = p.val; omega
  by_cases h : p.val < 2000
  · rw [dif_pos h, dif_pos ⟨by omega, by omega⟩]
    exact congrArg₂ L (Fin.ext e1) (Fin.ext e2)
  · rw [dif_neg h, dif_neg fun hh => h (by have := hh.2; omega)]

theorem topScores_seg (N : Vec Ideal S5x100x80 .f32) (r : Fin 64) (p : Fin 2048) :
    seg (topScores N) r p = if h : p.val < 2000 then listed N (ix3 (0 : Fin 5) (rowBatch r) (⟨p.val, h⟩ : Fin 2000)) else NEG :=
  (topScores_apply N _ _).trans (at_place (fun b p => listed N (ix3 (0 : Fin 5) b p)) NEG r p)

theorem topFeatures_apply (N : Vec Ideal S5x100x80 .f32) (d : Fin 4) (r : Fin 64) (p : Fin 2048) :
    topFeatures N (ix3 d (segRow r (placeRow p)) (placeLane p))
      = if h : p.val < 2000 then listed N (ix3 (⟨1 + d.val, by have := d.isLt; omega⟩ : Fin 5) (rowBatch r) (⟨p.val, h⟩ : Fin 2000)) else 0 := by
  have h0 : FloatOps.sitofp (F := Ideal) FTy.f32 (0#32) = (0 : EReal) := (sitofp_nat 0 (by norm_num)).trans (by norm_num)
  refine (topFeatures_lanes N d _ _).trans ?_
  rw [h0]
  exact at_place (fun b p => listed N (ix3 (⟨1 + d.val, by have := d.isLt; omega⟩ : Fin 5) b p)) 0 r p

theorem taken0_apply (O : Vec Ideal S6x64x128 .f32) (b : Fin 4) (k : Fin 100) (q : Fin 6) :
    taken0 O (ix3 b k q) = O (ix3 q (⟨b.val * 16, by have := b.isLt; omega⟩ : Fin 64) (⟨k.val, by have := k.isLt; omega⟩ : Fin 128)) := by
  unfold taken0
  pointwise
  exact congrArg (fun i : Fin 64 => O (ix3 q i (⟨k.val, by have := k.isLt; omega⟩ : Fin 128))) (Fin.ext (Nat.mul_comm 16 b.val))

end Cert.Proof.Re

end
-- ==== Proof.Ref.Rows.lean ====
/- The gather of rows the reference takes its boxes and its results by, read at an index. -/
module

public import Idealize.ShloMosaic.PureOps.ShapeOps
public import Idealize.ShloMosaic.Lib.Pointwise.Index

@[expose] public section

namespace Cert.Proof.Ref

open Idealize.ShloMosaic

variable {α : Type} {B N M E : ℕ}

/-- Rows `idx (b, m)` of batch `b`: the word read signed and clamped into the rows. -/
theorem gather_rows (d : GatherDims ⟨3, ![B, N, E]⟩ ⟨3, ![B, M, 1]⟩ ⟨3, ![B, M, E]⟩)
    (wf : GatherDims.WF ⟨3, ![B, N, E]⟩ ⟨3, ![B, M, 1]⟩ ⟨3, ![B, M, E]⟩ [2] [1] [0] [1] [0] 2 ![1, 1, E])
    (hd : d = { offsetDims := [2], collapsedSliceDims := [1], operandBatchingDims := [0], startIndicesBatchingDims := [0],
                startIndexMap := [1], indexVectorDim := 2, sliceSizes := ![1, 1, E], wf := wf })
    (x : (⟨3, ![B, N, E]⟩ : Shape).Idx → α) (idx : IVec ⟨3, ![B, M, 1]⟩ 32) (b : Fin B) (m : Fin M) (e : Fin E) (n : Fin N)
    (hn : min (idx (ix3 b m (0 : Fin 1))).toInt.toNat (N - 1) = n.val) :
    Host.gather d x idx (ix3 b m e) = x (ix3 b n e) := by
  subst hd
  unfold Host.gather
  refine congrArg x (funext fun a => Fin.ext ?_)
  set d : GatherDims ⟨3, ![B, N, E]⟩ ⟨3, ![B, M, 1]⟩ ⟨3, ![B, M, E]⟩ :=
    { offsetDims := [2], collapsedSliceDims := [1], operandBatchingDims := [0], startIndicesBatchingDims := [0],
      startIndexMap := [1], indexVectorDim := 2, sliceSizes := ![1, 1, E], wf := wf } with hd
  show d.start (ix3 b m e) idx a + d.batchCoord (ix3 b m e) a + d.offCoord (ix3 b m e) a = _
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp [hd] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b m e) ⟨List.idxOf (1 : Fin 3) d.startIndexMap,
        List.idxOf_lt_length_iff.2 (List.mem_singleton.mpr rfl)⟩ = ix3 b m (0 : Fin 1) := by
      funext c
      refine Fin.ext ?_
      match c with
      | ⟨0, _⟩ => rfl
      | ⟨1, _⟩ => rfl
      | ⟨2, _⟩ => rfl
    rw [hsi]
    exact hn
  · rw [GatherDims.batchCoord_eq_zero _ _ _ (fun h => by simp [hd] at h)]
    unfold GatherDims.start
    rw [dif_neg (fun h => by simp [hd] at h)]
    unfold GatherDims.offCoord
    rw [dif_pos ((GatherDims.mem_sKept _ _).mpr ⟨fun h => by simp [hd] at h, fun h => by simp [hd] at h⟩)]
    simp only [Nat.zero_add]
    rfl

end Cert.Proof.Ref
-- ==== Proof.Math.Words32.lean ====
/- The least index among those that satisfy a condition, as the reference looks for it in words. -/
module

public import proofs.«01_k».proof.Proof.Math.Rounds
public import Idealize.ShloMosaic.PureOps.Reduce

@[expose] public section

noncomputable section

namespace Cert.Proof

open Idealize.ShloMosaic

theorem toInt_minsi (x y : BitVec 32) : (IntOp.minsi x y).toInt = min x.toInt y.toInt := by
  unfold IntOp.minsi
  by_cases h : x.toInt < y.toInt
  · rw [if_pos (by rw [BitVec.slt, decide_eq_true h]), min_eq_left h.le]
  · rw [if_neg (by rw [BitVec.slt, decide_eq_false h]; exact Bool.false_ne_true), min_eq_right (not_lt.mp h)]

theorem toInt_small (n : ℕ) (h : n < 2 ^ 31) : (BitVec.ofNat 32 n).toInt = (n : ℤ) := by
  rw [BitVec.toInt_eq_toNat_cond, BitVec.toNat_ofNat, Nat.mod_eq_of_lt (by omega), if_pos (by omega)]

/-- The least of words, where one of them is least and under the starting word. -/
theorem fold_minsi {ι : Type} [Fintype ι] (f : ι → BitVec 32) (c : BitVec 32) (i : ι) (hc : (f i).toInt ≤ c.toInt)
    (h : ∀ k, (f i).toInt ≤ (f k).toInt) : (Finset.univ : Finset ι).fold IntOp.minsi c f = f i := by
  refine BitVec.eq_of_toInt_eq ?_
  have e : ((Finset.univ : Finset ι).fold IntOp.minsi c f).toInt = (Finset.univ : Finset ι).fold min c.toInt (fun k => (f k).toInt) :=
    (Finset.fold_hom (op := IntOp.minsi) (op' := min) (m := BitVec.toInt) toInt_minsi).symm
  rw [e]
  refine le_antisymm ?_ ?_
  · exact Finset.fold_min_le _ |>.mpr (.inr ⟨i, Finset.mem_univ i, le_refl _⟩)
  · exact Finset.le_fold_min _ |>.mpr ⟨hc, fun k _ => h k⟩

/-- The first best place of a list, found as the least index of a greatest score. -/
theorem fold_best (f : Fin 5000 → EReal) :
    (Finset.univ : Finset (Fin 5000)).fold IntOp.minsi 2147483647#32
      (fun k => if f k = f (best (n := 4999) f) then BitVec.ofNat 32 k.val else 5000#32) = BitVec.ofNat 32 (best (n := 4999) f).val := by
  have hf := best_first (n := 4999) f
  generalize best (n := 4999) f = i at hf ⊢
  have hi : i.val < 5000 := i.isLt
  have e := fold_minsi (fun k : Fin 5000 => if f k = f i then BitVec.ofNat 32 k.val else 5000#32) 2147483647#32 i ?_ ?_
  · rw [e, if_pos rfl]
  · rw [if_pos rfl, toInt_small _ (by omega)]
    show (i.val : ℤ) ≤ 2147483647
    omega
  · intro k
    have hk : k.val < 5000 := k.isLt
    rw [if_pos rfl, toInt_small _ (by omega)]
    by_cases h : f k = f i
    · rw [if_pos h, toInt_small _ (by omega)]
      by_contra hlt
      exact absurd (hf.before k (Fin.lt_def.mpr (by omega))) (by rw [h]; exact lt_irrefl _)
    · rw [if_neg h]
      show (i.val : ℤ) ≤ 5000
      omega

end Cert.Proof

end
-- ==== Proof.Ref.StepValue.lean ====
/- One round of the reference, entry by entry. -/
module

public import proofs.«01_k».proof.Proof.Ref.Steps
public import proofs.«01_k».proof.Proof.Ref.Rows
public import proofs.«01_k».proof.Proof.Math.Words32
public import proofs.«01_k».proof.Proof.Math.Segments
public import Idealize.ShloMosaic.Lib.Pointwise.Tactic
public import Idealize.ShloMosaic.Lib.Pointwise.Reduce
public import Idealize.ShloMosaic.Lib.Pointwise.Reshape
public import Idealize.ShloMosaic.Lib.Pointwise.Select

@[expose] public section

set_option maxRecDepth 16384

noncomputable section

namespace Cert.Proof.Ref

open Idealize.ShloMosaic
open Cert.ReferenceIdeal Cert.ReferenceIdeal.Gen
open Cert.ReferenceIdeal.Step

/-- The scores of a batch and class, -/
abbrev scoresOf (s : State Ideal) (b : Fin 4) (c : Fin 20) : Fin 5000 → EReal := fun n => s.main_v76_3 (ix3 b c n)
/-- a batch's boxes, -/
abbrev boxesOf (s : State Ideal) (b : Fin 4) : Fin 5000 → Box := fun n q => s.main_v76_1 (ix3 b n q)
/-- and the anchor the round picks. -/
abbrev picked (s : State Ideal) (b : Fin 4) (c : Fin 20) : Fin 5000 := best (n := 4999) (scoresOf s b c)

variable (j : ℕ) (s : State Ideal) (b : Fin 4) (c : Fin 20) (n : Fin 5000)

theorem b2_apply (z : Fin 1) : b2 j s (ix3 b c z) = scoresOf s b c (picked s b c) := by
  rw [← fold_max_eq (scoresOf s b c) (picked s b c) (best_first (n := 4999) (scoresOf s b c)).top]
  unfold b2 b1 b0
  pointwise
  rw [wbot_eq]

theorem b9_apply : b9 j s (ix2 b c) = BitVec.ofNat 32 (picked s b c).val := by
  have h7 : ∀ n : Fin 5000, b7 j s (ix3 b c n) = if scoresOf s b c n = scoresOf s b c (picked s b c) then BitVec.ofNat 32 n.val else 5000#32 := by
    intro n
    have h3 : b3 j s (ix3 b c n) = scoresOf s b c (picked s b c) := by
      rw [← b2_apply j s b c 0]
      unfold b3
      pointwise
    unfold b7 b4 b6 b5 K_main_v70
    pointwise
    rw [h3]
  rw [← fold_best (scoresOf s b c)]
  unfold b9 b8
  pointwise
  simp only [h7]

theorem b11_apply (q : Fin 4) : b11 j s (ix3 b c q) = boxesOf s b (picked s b c) q := by
  refine gather_rows _ _ rfl _ _ b c q (picked s b c) ?_
  have : b10 j s (ix3 b c (0 : Fin 1)) = BitVec.ofNat 32 (picked s b c).val := by
    rw [← b9_apply j s b c]
    unfold b10
    pointwise
  have hlt := (picked s b c).isLt
  rw [this, toInt_small _ (by omega)]
  omega

/-- What the pick's box and an anchor's share, -/
theorem b53_apply : b53 j s (ix3 b c n) = inter (boxesOf s b (picked s b c)) (boxesOf s b n) := by
  unfold inter
  simp only [← b11_apply j s b c]
  unfold b53 b52 b51 b50 b49 b48 b47 b46 b45 b44 b43 b42 b41 b40 b39 b38 b37 b36 b35 b34 b33 b32 b31 b30 b29 b28 b27 b26 b25 b24 b23 b22 b21 b20 b19 b18 b17 b16 b15
  pointwise

/-- the pick's area -/
theorem b70_apply : b70 j s (ix3 b c (0 : Fin 1)) = area (boxesOf s b (picked s b c)) := by
  unfold area
  simp only [← b11_apply j s b c]
  unfold b70 b69 b68 b67 b66 b65 b64 b63 b62 b61 b60 b59 b58 b57 b56 b55 b54 b15
  pointwise

/-- and the anchor's. -/
theorem b87_apply : b87 j s (ix3 b (0 : Fin 1) n) = area (boxesOf s b n) := by
  unfold area
  unfold b87 b86 b85 b84 b83 b82 b81 b80 b79 b78 b77 b76 b75 b74 b73 b72 b71 b16
  pointwise

theorem b95_apply : b95 j s (ix3 b c n) = iou (boxesOf s b (picked s b c)) (boxesOf s b n) := by
  unfold iou
  rw [← b53_apply j s b c n, ← b70_apply j s b c, ← b87_apply j s b n]
  unfold b95 b94 b93 b92 b91 b90 b89 b88
  pointwise

/-- The round's scores. -/
theorem b106_apply : b106 j s (ix3 b c n) = refStrike (boxesOf s b) (picked s b c) (scoresOf s b c) n := by
  have h98 : b98 j s (ix3 b c n) = BitVec.ofBool (decide (OVER ≤ iou (boxesOf s b (picked s b c)) (boxesOf s b n))) := by
    rw [← b95_apply j s b c n]
    unfold b98 b97 b96
    rfl
  have h100 : b100 j s (ix3 b c n) = BitVec.ofBool (decide (n = picked s b c)) := by
    have h99 : b99 j s (ix3 b c n) = BitVec.ofNat 32 (picked s b c).val := by
      rw [← b9_apply j s b c]
      unfold b99 b10
      pointwise
    have h70 : K_main_v70 (F := Ideal) (ix3 b c n) = BitVec.ofNat 32 n.val := rfl
    show BitVec.ofBool (K_main_v70 (F := Ideal) (ix3 b c n) == b99 j s (ix3 b c n)) = _
    rw [h70, h99, word_beq n.val (picked s b c).val (by have := n.isLt; omega) (by have := (picked s b c).isLt; omega)]
    simp only [Fin.ext_iff]
  have h102 : b102 j s (ix3 b c n) = BitVec.ofBool (decide (TH < scoresOf s b c (picked s b c))) := by
    rw [← b2_apply j s b c 0]
    unfold b102 b14 b13 b12
    pointwise
  show Scalar.select ((b98 j s (ix3 b c n) ||| b100 j s (ix3 b c n)) &&& b102 j s (ix3 b c n)) NEG (scoresOf s b c n) = _
  rw [h98, h100, h102, select_or_and]
  rfl

/-- What the round gives out. -/
theorem b111_apply (q : Fin 5) : b111 j s (ix3 b c q) = given (boxesOf s b) (picked s b c) (scoresOf s b c) q := by
  have h108 : b108 j s (ix3 b c q) = BitVec.ofBool (decide (TH < scoresOf s b c (picked s b c))) := by
    rw [← b2_apply j s b c 0]
    unfold b108 b14 b13 b12
    pointwise
  have h110 : b110 j s (ix3 b c q) = (0 : EReal) := Ideal.ofBits_zero .f32
  show Scalar.select (b108 j s (ix3 b c q)) (b107 j s (ix3 b c q)) (b110 j s (ix3 b c q)) = _
  rw [h108, select_bool, h110]
  unfold given
  fin_cases q
  · show (if _ then b107 j s (ix3 b c (0 : Fin 5)) else _) = ite _ (scoresOf s b c (picked s b c)) 0
    rw [← b2_apply j s b c 0]
    unfold b107
    pointwise
  · show (if _ then b107 j s (ix3 b c (1 : Fin 5)) else _) = ite _ (boxesOf s b (picked s b c) 0) 0
    rw [← b11_apply j s b c 0]
    unfold b107
    pointwise
  · show (if _ then b107 j s (ix3 b c (2 : Fin 5)) else _) = ite _ (boxesOf s b (picked s b c) 1) 0
    rw [← b11_apply j s b c 1]
    unfold b107
    pointwise
  · show (if _ then b107 j s (ix3 b c (3 : Fin 5)) else _) = ite _ (boxesOf s b (picked s b c) 2) 0
    rw [← b11_apply j s b c 2]
    unfold b107
    pointwise
  · show (if _ then b107 j s (ix3 b c (4 : Fin 5)) else _) = ite _ (boxesOf s b (picked s b c) 3) 0
    rw [← b11_apply j s b c 3]
    unfold b107
    pointwise

/-- The picks, this round's written at its place. -/
theorem b116_apply (hj : j < 100) (t : Fin 100) (q : Fin 5) :
    b116 j s (ix4 t b c q) = if t.val = j then given (boxesOf s b) (picked s b c) (scoresOf s b c) q else s.main_v76_4 (ix4 t b c q) := by
  rw [← b111_apply j s b c q]
  unfold b116 b115 b114 b113
  generalize hst : (fun k : Fin 4 => BitVec.toInt ((![constantI S_ 32 (BitVec.ofNat 32 j), constantI S_ 32 0#32, constantI S_ 32 0#32,
    constantI S_ 32 0#32] : Fin 4 → (⟨S_, .i32⟩ : BufTy).Contents (Elt Ideal)) k (Shape.Idx.first h_S_))) = st
  have h0 : st 0 = (j : ℤ) := by rw [← hst]; exact toInt_small j (by omega)
  have h1 : st 1 = 0 := by rw [← hst]; rfl
  have h2 : st 2 = 0 := by rw [← hst]; rfl
  have h3 : st 3 = 0 := by rw [← hst]; rfl
  have c0 := Host.clampedStart_of_le updateFits_S100x4x20x5_S1x4x20x5.1 st 0 j h0 (by show j + 1 ≤ 100; omega)
  have c1 := Host.clampedStart_of_le updateFits_S100x4x20x5_S1x4x20x5.1 st 1 0 h1 (by decide)
  have c2 := Host.clampedStart_of_le updateFits_S100x4x20x5_S1x4x20x5.1 st 2 0 h2 (by decide)
  have c3 := Host.clampedStart_of_le updateFits_S100x4x20x5_S1x4x20x5.1 st 3 0 h3 (by decide)
  have h112 : b112 j s (ix4 (0 : Fin 1) b c q) = b111 j s (ix3 b c q) := by
    unfold b112
    pointwise
  pointwise
  simp only [c0, c1, c2, c3, Nat.zero_le, and_true, Nat.sub_zero]
  by_cases h : t.val = j
  · rw [if_pos h, ← h112]
    refine (dif_pos ⟨⟨h.ge, h.trans_lt (Nat.lt_succ_self j)⟩, ⟨trivial, by have := b.isLt; omega⟩, ⟨trivial, by have := c.isLt; omega⟩,
      trivial, by have := q.isLt; omega⟩).trans ?_
    exact congrArg (fun z : Fin 1 => b112 j s (ix4 z b c q)) (Subsingleton.elim _ _)
  · rw [if_neg h]
    exact dif_neg fun e => h (le_antisymm (Nat.lt_succ_iff.mp e.1.2) e.1.1)

/-- The scores after `k` rounds are the plain rounds', and the boxes stay. -/
theorem states_scores (y : (⟨S4x5000x33, .f32⟩ : BufTy).Contents (Elt Ideal)) (b : Fin 4) (c : Fin 20) : ∀ k,
    boxesOf (states y k) b = boxesOf (init y) b
      ∧ scoresOf (states y k) b c = scoresAfter (boxesOf (init y) b) (scoresOf (init y) b c) k
  | 0 => ⟨rfl, rfl⟩
  | k + 1 => by
    obtain ⟨h1, h2⟩ := states_scores y b c k
    refine ⟨h1, ?_⟩
    show scoresOf (states y (k + 1)) b c = refStrike (boxesOf (init y) b) (best (n := 4999) (scoresAfter _ _ k)) (scoresAfter _ _ k)
    rw [← h2, ← h1]
    funext n
    exact b106_apply k (states y k) b c n

/-- The picks after `k` rounds. -/
theorem states_picks (y : (⟨S4x5000x33, .f32⟩ : BufTy).Contents (Elt Ideal)) (b : Fin 4) (c : Fin 20) (t : Fin 100) (q : Fin 5) : ∀ k, k ≤ 100 →
    t.val < k → (states y k).main_v76_4 (ix4 t b c q) = roundGives (boxesOf (init y) b) (scoresOf (init y) b c) t.val q
  | 0, _, h => absurd h (Nat.not_lt_zero _)
  | k + 1, hk, h => by
    show b116 k (states y k) (ix4 t b c q) = _
    rw [b116_apply k (states y k) b c (by omega)]
    by_cases e : t.val = k
    · obtain ⟨h1, h2⟩ := states_scores y b c k
      rw [if_pos e]
      unfold roundGives
      rw [e, ← h2, ← h1]
    · rw [if_neg e]
      exact states_picks y b c t q k (by omega) (by omega)

end Cert.Proof.Ref

end
-- ==== Proof.Ref.Result.lean ====
/- The reference's result, entry by entry: the rows its sort puts first. -/
module

public import proofs.«01_k».proof.Proof.Ref.StepValue
public import proofs.«01_k».proof.Proof.Math.Ranked
public import Idealize.ShloMosaic.Lib.Pointwise.Tactic
public import Idealize.ShloMosaic.Lib.Pointwise.Reshape

@[expose] public section

set_option maxRecDepth 16384

noncomputable section

namespace Cert.Proof.Ref

open Idealize.ShloMosaic
open Cert.ReferenceIdeal Cert.ReferenceIdeal.Gen
open Cert.ReferenceIdeal.Step

section Any

variable {F : FTy → Type} [FloatOps F]

/-- All picks of a batch as one table of rows: class, score and four features. -/
def table (P : (⟨S100x4x20x5, .f32⟩ : BufTy).Contents (Elt F)) : Vec F S4x2000x6 .f32 :=
  shapeCast _ (concatenate S4x20x100x6 3 [⟨S4x20x100x1, (broadcastInDim (α := Elt F .f32) S4x20x100x1 ![0, 1, 2, 3] bcast_S1x20x1x1_S4x20x100x1_0_1_2_3
    (broadcastInDim S1x20x1x1 ![1] bcast_S20_S1x20x1x1_1 (addf (broadcastInDim S20 ![] bcast_S_S20 (constant (F := F) S_ .f32 0x3F800000#32)) (sitofp .f32 (iotaInDim S20 32 0)))))⟩,
    ⟨S4x20x100x5, (transpose S4x20x100x5 [1, 2, 0, 3] P transposes_S100x4x20x5_S4x20x100x5_1_2_0_3)⟩] concatenates_S4x20x100x1_S4x20x100x5_S4x20x100x6_d3)
    shapeCasts_S4x20x100x6_S4x2000x6

/-- The scores of the table. -/
def column (P : (⟨S100x4x20x5, .f32⟩ : BufTy).Contents (Elt F)) : Vec F S4x2000 .f32 :=
  shapeCast _ (extractStridedSlice S4x2000x1 ![0, 0, 1] (table P) slices_S4x2000x6_S4x2000x1_0_0_1) shapeCasts_S4x2000x1_S4x2000

/-- The rows the sort puts first. -/
def firstRows (P : (⟨S100x4x20x5, .f32⟩ : BufTy).Contents (Elt F)) : IVec S4x100 32 :=
  (Host.topK S4x100 1 (FloatOps.cmpfTotal (F := F) (φ := .f32) .gt) (column P) sliceFits_S4x2000_S4x100).2

/-- The result is those rows of the table. -/
theorem out_rows (s : State F) : Cert.ReferenceIdeal.Step.R_main_v88 s
    = Host.gather gather_S4x2000x6_S4x100x1_S4x100x6_2_1_0_0_1_2_116 (table s.main_v76_4)
      (broadcastInDim S4x100x1 ![0, 1] bcast_S4x100_S4x100x1_0_1 (firstRows s.main_v76_4)) := rfl

end Any

theorem table_class (P : (⟨S100x4x20x5, .f32⟩ : BufTy).Contents (Elt Ideal)) (b : Fin 4) (p : Fin 2000) :
    table P (ix3 b p (0 : Fin 6)) = nat (p.val / 100 + 1) := by
  have hp := p.isLt
  unfold table
  pointwise
  rw [sitofp_nat _ (by omega)]
  unfold nat
  push_cast
  exact add_comm _ _

theorem table_pick (P : (⟨S100x4x20x5, .f32⟩ : BufTy).Contents (Elt Ideal)) (b : Fin 4) (p : Fin 2000) (q : Fin 5) :
    table P (ix3 b p (⟨1 + q.val, by have := q.isLt; omega⟩ : Fin 6)) = P (ix4 (⟨p.val % 100, by omega⟩ : Fin 100) b (⟨p.val / 100, by have := p.isLt; omega⟩ : Fin 20) q) := by
  have hp := p.isLt
  unfold table
  pointwise
  refine (dif_neg (by omega : ¬ 1 + q.val < 1)).trans ?_
  exact congrArg (fun i : Fin 5 => P (ix4 (⟨p.val % 100, by omega⟩ : Fin 100) b (⟨p.val / 100, by omega⟩ : Fin 20) i)) (Fin.ext (Nat.add_sub_cancel_left 1 q.val))

theorem column_apply (P : (⟨S100x4x20x5, .f32⟩ : BufTy).Contents (Elt Ideal)) (b : Fin 4) (p : Fin 2000) :
    column P (ix2 b p) = P (ix4 (⟨p.val % 100, by omega⟩ : Fin 100) b (⟨p.val / 100, by have := p.isLt; omega⟩ : Fin 20) (0 : Fin 5)) := by
  rw [← table_pick P b p 0]
  unfold column
  pointwise

/-- What a sort of rows carries along, at an index. -/
theorem sort_second {α β : Type} {B N : ℕ} (cmp : α × β → α × β → BitVec 1) (x : (⟨2, ![B, N]⟩ : Shape).Idx → α) (y : (⟨2, ![B, N]⟩ : Shape).Idx → β)
    (b : Fin B) (n : Fin N) : (Host.sort2 ⟨2, ![B, N]⟩ 1 cmp x y).2 (ix2 b n)
      = y (ix2 b (sortedFrom (fun i j => cmp (x (ix2 b i), y (ix2 b i)) (x (ix2 b j), y (ix2 b j)) == 1#1) n)) := by
  have hal : ∀ p : Fin N, Shape.Idx.along (s := ⟨2, ![B, N]⟩) (ix2 b n) (1 : Fin 2) p = ix2 b p := fun p => funext fun a => by
    fin_cases a <;> rfl
  unfold Host.sort2
  rw [dif_pos (show 1 < (⟨2, ![B, N]⟩ : Shape).rank from Nat.one_lt_two)]
  refine Eq.trans (congrArg y (hal _)) ?_
  refine congrArg (fun R => y (ix2 b (sortedFrom R n))) ?_
  funext i j
  exact congrArg₂ (fun p q => cmp (x p, y p) (x q, y q) == 1#1) (hal i) (hal j)

/-- The comparison of a batch's sort. -/
def greater (P : (⟨S100x4x20x5, .f32⟩ : BufTy).Contents (Elt Ideal)) (b : Fin 4) (i j : Fin 2000) : Bool :=
  decide (column P (ix2 b j) < column P (ix2 b i))

theorem firstRows_apply (P : (⟨S100x4x20x5, .f32⟩ : BufTy).Contents (Elt Ideal)) (b : Fin 4) (k : Fin 100) :
    firstRows P (ix2 b k) = BitVec.ofNat 32 (sortedFrom (greater P b) (⟨k.val, by have := k.isLt; omega⟩ : Fin 2000)).val := by
  have hR : (fun i j : Fin 2000 => FloatOps.cmpfTotal (F := Ideal) (φ := .f32) .gt (column P (ix2 b i)) (column P (ix2 b j)) == 1#1) = greater P b := by
    funext i j
    show (BitVec.ofBool (decide (column P (ix2 b j) < column P (ix2 b i))) == 1#1) = greater P b i j
    unfold greater
    by_cases h : column P (ix2 b j) < column P (ix2 b i) <;> simp [h]
  unfold firstRows Host.topK
  pointwise
  refine (sort_second (B := 4) (N := 2000) _ (column P) _ b _).trans ?_
  exact congrArg (fun R => BitVec.ofNat 32 (sortedFrom R (⟨k.val, by have := k.isLt; omega⟩ : Fin 2000)).val) hR

theorem result_rows (y : (⟨S4x5000x33, .f32⟩ : BufTy).Contents (Elt Ideal)) (b : Fin 4) (k : Fin 100) (q : Fin 6) :
    result y (ix3 b k q) = table (states y 100).main_v76_4
      (ix3 b (sortedFrom (greater (states y 100).main_v76_4 b) (⟨k.val, by have := k.isLt; omega⟩ : Fin 2000)) q) := by
  unfold result
  rw [out_rows]
  refine gather_rows _ _ rfl _ _ b k q _ ?_
  have h : broadcastInDim S4x100x1 ![0, 1] bcast_S4x100_S4x100x1_0_1 (firstRows (states y 100).main_v76_4) (ix3 b k (0 : Fin 1))
      = BitVec.ofNat 32 (sortedFrom (greater (states y 100).main_v76_4 b) (⟨k.val, by have := k.isLt; omega⟩ : Fin 2000)).val := by
    rw [← firstRows_apply]
    pointwise
  have hlt := (sortedFrom (greater (states y 100).main_v76_4 b) (⟨k.val, by have := k.isLt; omega⟩ : Fin 2000)).isLt
  refine Eq.trans (congrArg (fun w : BitVec 32 => min w.toInt.toNat (2000 - 1)) h) ?_
  show min (BitVec.ofNat 32 _).toInt.toNat (2000 - 1) = _
  rw [toInt_small _ (by omega)]
  omega

end Cert.Proof.Ref

end
-- ==== Proof.Ref.Initial.lean ====
/- The reference's scores and boxes before its rounds, read at an index. -/
module

public import proofs.«01_k».proof.Proof.Ref.StepValue
public import proofs.«01_k».proof.Proof.Math.Decode
public import Idealize.ShloMosaic.Lib.Pointwise.Tactic
public import Idealize.ShloMosaic.Lib.Pointwise.Reshape
public import Idealize.ShloMosaic.Lib.Pointwise.Select

@[expose] public section

set_option maxRecDepth 16384

noncomputable section

namespace Cert.Proof.Ref

open Idealize.ShloMosaic
open Cert.ReferenceIdeal Cert.ReferenceIdeal.Gen Cert.ReferenceIdeal.Step

theorem scoresOf_init (y : (⟨S4x5000x33, .f32⟩ : BufTy).Contents (Elt Ideal)) (b : Fin 4) (c : Fin 20) (n : Fin 5000) :
    scoresOf (init y) b c n = if TH < y (ix3 b n (⟨1 + c.val, by have := c.isLt; omega⟩ : Fin 33))
      then y (ix3 b n (⟨1 + c.val, by have := c.isLt; omega⟩ : Fin 33)) else NEG := by
  show A_main_v74 y (ix3 b c n) = _
  unfold A_main_v74 A_main_v72 A_main_v69 A_main_v68
  unfold K_main_v71 K_main_v73 K_main_cst_7 K_main_cst_8
  pointwise

theorem boxesOf_init (y : (⟨S4x5000x33, .f32⟩ : BufTy).Contents (Elt Ideal)) (b : Fin 4) (n : Fin 5000) :
    boxesOf (init y) b n = decode fun i => y (ix3 b n (⟨21 + i.val, by have := i.isLt; omega⟩ : Fin 33)) := by
  funext q
  show A_main_v67 y (ix3 b n q) = _
  unfold A_main_v67 A_main_v66 A_main_v65 A_main_v64 A_main_v63 A_main_v62 A_main_v60 A_main_v59 A_main_v57 A_main_v55 A_main_v54
    A_main_v52 A_main_v50 A_main_v49 A_main_v47 A_main_v45 A_main_v44 A_main_v42 A_main_v41 A_main_v40 A_main_v39 A_main_v38 A_main_v37 A_main_v36
    A_main_v35 A_main_v34 A_main_v33 A_main_v32 A_main_v31 A_main_v30 A_main_v29 A_main_v28 A_main_v27 A_main_v26 A_main_v25 A_main_v24 A_main_v23
    A_main_v22 A_main_v21 A_main_v20 A_main_v19 A_main_v18 A_main_v17 A_main_v16 A_main_v15 A_main_v14 A_main_v13 A_main_v12 A_main_v11 A_main_v10
    A_main_v9 A_main_v8 A_main_v7 A_main_v6 A_main_v5 A_main_v4 A_main_v3 A_main_v2 A_main_v1 A_main_v0
  unfold K_main_v43 K_main_v46 K_main_v48 K_main_v51 K_main_v53 K_main_v56 K_main_v58 K_main_v61
  unfold K_main_cst K_main_cst_0 K_main_cst_1 K_main_cst_2 K_main_cst_3 K_main_cst_4 K_main_cst_5 K_main_cst_6
  fin_cases q <;> pointwise
  all_goals rfl

end Cert.Proof.Ref

end
-- ==== Proof.Same.lean ====
/- The kernel's result and the reference's are one function of the argument. -/
module

public import proofs.«01_k».proof.Proof.Re.TopKGlue
public import proofs.«01_k».proof.Proof.Ref.Result
public import proofs.«01_k».proof.Proof.Ref.Initial

@[expose] public section

set_option maxRecDepth 16384

noncomputable section

namespace Cert.Proof

open Idealize.ShloMosaic
open Cert.Proof.Re

variable (y : (⟨⟨3, ![4, 5000, 33]⟩, .f32⟩ : BufTy).Contents (Elt Ideal))

/-- The picks of the first grid program, -/
abbrev kernelPicks : (⟨⟨3, ![5, 100, 80]⟩, .f32⟩ : BufTy).Contents (Elt Ideal) := nmsOut (scIn y) (boxIn y)

/-- and of the reference's loop. -/
abbrev plainPicks : (⟨⟨4, ![100, 4, 20, 5]⟩, .f32⟩ : BufTy).Contents (Elt Ideal) := (Ref.states y 100).main_v76_4

/-- What the plain rounds give at a place of a batch's list. -/
def placed (b : Fin 4) (p : Fin 2000) : Fin 5 → EReal := roundGives (boxOf y b) (scoreOf y b (placeClass p)) (placeRound p).val

/-- The order of a batch's list, greatest score first. -/
@[irreducible] def order (b : Fin 4) : Fin 2000 → Fin 2000 := sortedFrom fun i j => decide (placed y b j 0 < placed y b i 0)

theorem order_surjective (b : Fin 4) : Function.Surjective (order y b) := by
  unfold order
  exact sortedFrom_surjective _

theorem longer_lt (p : Fin 2000) : (longer p).val < 2000 := p.isLt

theorem longer_val (p : Fin 2000) : (longer p).val = p.val := rfl

theorem order_ahead (b : Fin 4) (i j : Fin 2000) (h : i < j) : Ahead (fun p => placed y b p 0) (order y b i) (order y b j) := by
  unfold order
  exact sortedFrom_ahead (fun p => placed y b p 0) _ (fun _ _ => decide_eq_true_iff) i j h

theorem placed_score (b : Fin 4) (p : Fin 2000) : NEG < placed y b p 0 := by
  show NEG < if TH < _ then _ else (0 : EReal)
  split
  · exact neg_lt_th.trans ‹_›
  · exact neg_lt_zero

theorem placed_box (hpos : ∀ b n q, NEG ≤ boxOf y b n q) (b : Fin 4) (p : Fin 2000) (d : Fin 4) : NEG ≤ placed y b p d.succ := by
  show NEG ≤ if TH < _ then boxOf y b _ d else (0 : EReal)
  split
  · exact hpos _ _ _
  · exact neg_lt_zero.le

/-! ## The reference -/

theorem plainPicks_apply (b : Fin 4) (p : Fin 2000) (q : Fin 5) : plainPicks y (ix4 (placeRound p) b (placeClass p) q) = placed y b p q := by
  have hb : Ref.boxesOf (Cert.ReferenceIdeal.Step.init y) b = boxOf y b := funext fun n => Ref.boxesOf_init y b n
  have hs : Ref.scoresOf (Cert.ReferenceIdeal.Step.init y) b (placeClass p) = scoreOf y b (placeClass p) := funext fun n => Ref.scoresOf_init y b (placeClass p) n
  unfold placed
  rw [← hb, ← hs]
  exact Ref.states_picks y b (placeClass p) (placeRound p) q 100 le_rfl (placeRound p).isLt

theorem order_eq (b : Fin 4) : sortedFrom (Ref.greater (plainPicks y) b) = order y b := by
  unfold order
  congr 1
  funext i j
  unfold Ref.greater
  rw [Ref.column_apply, Ref.column_apply]
  exact congrArg₂ (fun u v : EReal => decide (u < v)) (plainPicks_apply y b j 0) (plainPicks_apply y b i 0)

/-- The reference's result, row by row. -/
theorem result_class (b : Fin 4) (k : Fin 100) : Ref.result y (ix3 b k (0 : Fin 6))
    = nat ((order y b (⟨k.val, by have := k.isLt; omega⟩ : Fin 2000)).val / 100 + 1) := by
  rw [Ref.result_rows, order_eq, Ref.table_class]

theorem result_pick (b : Fin 4) (k : Fin 100) (q : Fin 5) : Ref.result y (ix3 b k (⟨1 + q.val, by have := q.isLt; omega⟩ : Fin 6))
    = placed y b (order y b (⟨k.val, by have := k.isLt; omega⟩ : Fin 2000)) q := by
  rw [Ref.result_rows, order_eq, Ref.table_pick]
  exact plainPicks_apply y b _ q

/-! ## The kernel -/

section Kernel

variable (hself : ∀ b n, OVER ≤ iou (boxOf y b n) (boxOf y b n)) (hpos : ∀ b n q, NEG ≤ boxOf y b n q)
include hself

theorem listed_placed (b : Fin 4) (p : Fin 2000) (q : Fin 5) : listed (kernelPicks y) (ix3 q b p) = placed y b p q := by
  rw [listed_apply]
  exact nms_apply y hself q (placeRound p) b (placeClass p)

/-- The place taken at a round is the sort's. -/
theorem chosen_order (r : Fin 64) (t : ℕ) (ht : t < 2000) :
    chosen (topScores (kernelPicks y)) r t = longer (order y (rowBatch r) ⟨t, ht⟩)
      ∧ left (n := 2047) (seg (topScores (kernelPicks y)) r) t (longer (order y (rowBatch r) ⟨t, ht⟩))
        = placed y (rowBatch r) (order y (rowBatch r) ⟨t, ht⟩) 0 := by
  refine taken (f := fun p => placed y (rowBatch r) p 0) (placed_score y (rowBatch r)) (fun p => ?_) (fun p hp => ?_)
    (order_surjective y (rowBatch r)) (order_ahead y (rowBatch r)) t ht
  · rw [topScores_seg, dif_pos (show (longer p).val < 2000 from p.isLt)]
    exact listed_placed y hself (rowBatch r) p 0
  · rw [topScores_seg, dif_neg (by omega)]

theorem feature_placed (d : Fin 4) (r : Fin 64) (t : ℕ) (ht : t < 2000) :
    topFeatures (kernelPicks y) (ix3 d (segRow r (placeRow (chosen (topScores (kernelPicks y)) r t))) (placeLane (chosen (topScores (kernelPicks y)) r t)))
      = placed y (rowBatch r) (order y (rowBatch r) ⟨t, ht⟩) d.succ := by
  rw [(chosen_order y hself r t ht).1, topFeatures_apply, dif_pos (longer_lt _)]
  refine (listed_placed y hself (rowBatch r) _ _).trans ?_
  exact congrArg (placed y (rowBatch r) (order y (rowBatch r) ⟨t, ht⟩)) (Fin.ext (Nat.add_comm 1 d.val))

include hpos

/-- The kernel's result is the reference's, entry by entry, -/
theorem same_at (b : Fin 4) (k : Fin 100) (q : Fin 6) :
    taken0 (out1_2 (topScores (kernelPicks y)) (topFeatures (kernelPicks y))) (ix3 b k q) = Ref.result y (ix3 b k q) := by
  have hk := k.isLt
  rw [taken0_apply]
  have hrows := out_rows (topScores (kernelPicks y)) (topFeatures (kernelPicks y))
    (fun r t ht => by rw [(chosen_order y hself r t (by omega)).1]; exact longer_lt _)
    (fun d r t ht => by rw [feature_placed y hself d r t (by omega)]; exact placed_box y hpos _ _ d)
    (⟨b.val * 16, by have := b.isLt; omega⟩ : Fin 64) (⟨k.val, by omega⟩ : Fin 128) k.isLt
  have hb : rowBatch (⟨b.val * 16, by have := b.isLt; omega⟩ : Fin 64) = b := Fin.ext (by show b.val * 16 / 16 = b.val; omega)
  obtain ⟨h0, h1, h2⟩ := hrows
  have hc := chosen_order y hself (⟨b.val * 16, by have := b.isLt; omega⟩ : Fin 64) k.val (by omega)
  rw [hb] at hc
  have hq : q = 0 ∨ q = 1 ∨ ∃ d : Fin 4, q = ⟨2 + d.val, by have := d.isLt; omega⟩ := by
    by_cases e0 : q.val = 0
    · exact .inl (Fin.ext e0)
    · by_cases e1 : q.val = 1
      · exact .inr (.inl (Fin.ext e1))
      · exact .inr (.inr ⟨⟨q.val - 2, by have := q.isLt; omega⟩, Fin.ext (by show q.val = 2 + (q.val - 2); omega)⟩)
  rcases hq with rfl | rfl | ⟨d, rfl⟩
  · refine h0.trans ?_
    rw [hc.1, longer_val, result_class]
  · refine h1.trans ?_
    rw [hc.1]
    exact hc.2.trans (result_pick y b k 0).symm
  · refine (h2 d).trans ?_
    refine (feature_placed y hself d _ k.val (by omega)).trans ?_
    rw [hb]
    refine Eq.trans ?_ ((result_pick y b k d.succ).symm.trans ?_)
    · rfl
    · exact congrArg (fun q : Fin 6 => Ref.result y (ix3 b k q)) (Fin.ext (by show 1 + (d.val + 1) = 2 + d.val; omega))

/-- and so altogether. -/
theorem same : taken0 (out1_2 (topScores (kernelPicks y)) (topFeatures (kernelPicks y))) = Ref.result y := by
  funext i
  have hi : i = ix3 (i 0 : Fin 4) (i 1 : Fin 100) (i 2 : Fin 6) := funext fun a => by fin_cases a <;> rfl
  exact (congrArg (taken0 _) hi).trans ((same_at y hself hpos (i 0) (i 1) (i 2)).trans (congrArg (Ref.result y) hi).symm)

end Kernel

end Cert.Proof

end
-- ==== Proof.Overlap.lean ====
/- What the precondition says of the argument: every box meets itself by the threshold, no coordinate is under `NEG`. -/
module

public import proofs.«01_k».proof.Pre_boxes_overlap_themselves
public import proofs.«01_k».proof.Proof.Math.Decode
public import Idealize.ShloMosaic.Lib.Decide
public import Idealize.ShloMosaic.Lib.Pointwise.Tactic
public import Idealize.ShloMosaic.Lib.Pointwise.Reshape
public import Idealize.ShloMosaic.Lib.Pointwise.Select

@[expose] public section

set_option maxRecDepth 16384

noncomputable section

namespace Cert.Proof.Overlap

open Idealize.ShloMosaic
open Cert.Pre_boxes_overlap_themselves

/-- The shapes the predicate's operations take and give belong together. -/
instance facts : Facts where
  slices_S4x5000x33_S4x5000x4_0_0_21 := by decide
  slices_S4x5000x33_S4x5000x4_0_0_25 := by decide
  slices_S4x5000x33_S4x5000x4_0_0_29 := by decide
  slices_S4x5000x4_S4x5000x1_0_0_0 := by decide
  shapeCasts_S4x5000x1_S4x5000 := by decide
  slices_S4x5000x4_S4x5000x1_0_0_2 := by decide
  slices_S4x5000x4_S4x5000x1_0_0_1 := by decide
  slices_S4x5000x4_S4x5000x1_0_0_3 := by decide
  bcast_S_S4x5000 := by decide
  bcast_S4x5000_S4x5000x1_0_1 := by decide
  concatenates_S4x5000x1_S4x5000x1_S4x5000x1_S4x5000x1_S4x5000x4_d2 := by decide
  bcast_S_S4x5000x4 := by decide
  bcast_S4x5000x1_S4x5000x4_0_1_2 := by decide

open Facts

/-- The predicate, of a table of boxes. -/
def meets (v : FVec Ideal S4x5000x4 .f32) : IVec S4x5000x4 1 :=
  fn_part4 v
    (maximumf (shapeCast S4x5000 (extractStridedSlice S4x5000x1 ![0, 0, 0] v slices_S4x5000x4_S4x5000x1_0_0_0) shapeCasts_S4x5000x1_S4x5000)
      (shapeCast S4x5000 (extractStridedSlice S4x5000x1 ![0, 0, 0] v slices_S4x5000x4_S4x5000x1_0_0_0) shapeCasts_S4x5000x1_S4x5000))
    (maximumf (shapeCast S4x5000 (extractStridedSlice S4x5000x1 ![0, 0, 1] v slices_S4x5000x4_S4x5000x1_0_0_1) shapeCasts_S4x5000x1_S4x5000)
      (shapeCast S4x5000 (extractStridedSlice S4x5000x1 ![0, 0, 1] v slices_S4x5000x4_S4x5000x1_0_0_1) shapeCasts_S4x5000x1_S4x5000))
    (minimumf (shapeCast S4x5000 (extractStridedSlice S4x5000x1 ![0, 0, 2] v slices_S4x5000x4_S4x5000x1_0_0_2) shapeCasts_S4x5000x1_S4x5000)
      (shapeCast S4x5000 (extractStridedSlice S4x5000x1 ![0, 0, 2] v slices_S4x5000x4_S4x5000x1_0_0_2) shapeCasts_S4x5000x1_S4x5000))
    (minimumf (shapeCast S4x5000 (extractStridedSlice S4x5000x1 ![0, 0, 3] v slices_S4x5000x4_S4x5000x1_0_0_3) shapeCasts_S4x5000x1_S4x5000)
      (shapeCast S4x5000 (extractStridedSlice S4x5000x1 ![0, 0, 3] v slices_S4x5000x4_S4x5000x1_0_0_3) shapeCasts_S4x5000x1_S4x5000))

/-- A table's box. -/
def boxAt (v : FVec Ideal S4x5000x4 .f32) (b : Fin 4) (n : Fin 5000) : Box := fun q => v (ix3 b n q)

theorem meets_apply (v : FVec Ideal S4x5000x4 .f32) (b : Fin 4) (n : Fin 5000) (q : Fin 4) :
    meets v (ix3 b n q)
      = IntOp.andi (BitVec.ofBool (decide (OVER ≤ iou (boxAt v b n) (boxAt v b n)))) (BitVec.ofBool (decide (NEG ≤ v (ix3 b n q)))) := by
  unfold meets fn_part4 fn_part5 fn_part6
  pointwise
  rfl

/-- The predicate is `meets` of the decoded boxes. -/
theorem fn_meets (y : FVec Ideal S4x5000x33 .f32) : ∃ v : FVec Ideal S4x5000x4 .f32, fn y = meets v
    ∧ ∀ b n q, v (ix3 b n q) = decode (fun i => y (ix3 b n (⟨21 + i.val, by have := i.isLt; omega⟩ : Fin 33))) q := by
  unfold fn fn_part1 fn_part2 fn_part3 meets
  refine ⟨_, rfl, fun b n q => ?_⟩
  fin_cases q <;> pointwise
  all_goals rfl

/-- Two bits whose conjunction is one are both one. -/
theorem both {p q : Prop} [Decidable p] [Decidable q] (h : IntOp.andi (BitVec.ofBool (decide p)) (BitVec.ofBool (decide q)) = 1#1) : p ∧ q := by
  by_cases hp : p <;> by_cases hq : q <;> simp [hp, hq, IntOp.andi] at h ⊢

variable {y : FVec Ideal S4x5000x33 .f32} (h : fn y = fun _ => 1#1) (b : Fin 4) (n : Fin 5000)
include h

theorem at_box (q : Fin 4) :
    OVER ≤ iou (decode fun i => y (ix3 b n (⟨21 + i.val, by have := i.isLt; omega⟩ : Fin 33)))
        (decode fun i => y (ix3 b n (⟨21 + i.val, by have := i.isLt; omega⟩ : Fin 33)))
      ∧ NEG ≤ decode (fun i => y (ix3 b n (⟨21 + i.val, by have := i.isLt; omega⟩ : Fin 33))) q := by
  obtain ⟨v, hv, hd⟩ := fn_meets y
  have hb : boxAt v b n = decode fun i => y (ix3 b n (⟨21 + i.val, by have := i.isLt; omega⟩ : Fin 33)) := funext (hd b n)
  have := both ((meets_apply v b n q).symm.trans ((congrFun hv _).symm.trans (congrFun h _)))
  rwa [hb, hd b n q] at this

/-- Every box meets itself by the threshold, -/
theorem meets_itself :
    OVER ≤ iou (decode fun i => y (ix3 b n (⟨21 + i.val, by have := i.isLt; omega⟩ : Fin 33)))
        (decode fun i => y (ix3 b n (⟨21 + i.val, by have := i.isLt; omega⟩ : Fin 33))) := (at_box h b n 0).1

/-- and no coordinate lies under `NEG`. -/
theorem not_under (q : Fin 4) : NEG ≤ decode (fun i => y (ix3 b n (⟨21 + i.val, by have := i.isLt; omega⟩ : Fin 33))) q := (at_box h b n q).2

end Cert.Proof.Overlap

end
-- ==== Proof.lean ====
module

public import proofs.«01_k».proof.Defs
public import proofs.«01_k».proof.Proof.Hw.Run
public import proofs.«01_k».proof.Proof.Re.Run
public import proofs.«01_k».proof.Proof.Gen.ReferenceIdeal
public import proofs.«01_k».proof.Proof.Ref.Steps
public import proofs.«01_k».proof.Proof.Same
public import proofs.«01_k».proof.Proof.Overlap
public import Idealize.ShloMosaic.Lib.Quiescent

@[expose] public section

noncomputable section

namespace Cert.Proof

open Idealize.ShloMosaic Idealize.ShloMosaic.TcCoe Idealize.SL.Sem

/-- The reference runs: it has no semaphore, so that all counters read zero at its end. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems rfl r.2⟩) (Ref.run m ρ)

/-- The kernel's run ends with the reference's result, of an argument the precondition holds of. -/
theorem kernel_value (m : (ℓ : Loc Cert.KernelIdeal.nD Cert.KernelIdeal.τ Cert.KernelIdeal.sig) → Buf (Elt Ideal) ℓ) (ρ : Dev Cert.KernelIdeal.nD → PrngReg)
    (hm : Cert.Pre_KernelIdeal_boxes_overlap_themselves (hPre_boxes_overlap_themselves := Overlap.facts) m) (c : Dev Cert.KernelIdeal.nD) :
    Re.W5 m ρ c (Proc.devRef .tc Cert.KernelIdeal.main_v0)
      = Ref.result (m ((c.tc : Thread Cert.KernelIdeal.nD Cert.KernelIdeal.τ).loc Cert.KernelIdeal.main_arg0)) :=
  (Re.W5_value m ρ c).trans (same _ (fun b n => Overlap.meets_itself (hm c) b n) (fun b n q => Overlap.not_under (hm c) b n q))

/-- The two programs' results are one function of the argument. -/
theorem algebraic : Cert.algebraic_KernelIdeal_ReferenceIdeal_pre_boxes_overlap_themselves (hKernelIdeal := Cert.KernelIdeal.Gen.facts)
    (hReferenceIdeal := Cert.ReferenceIdeal.Gen.facts) (hPre_boxes_overlap_themselves := Overlap.facts) := by
  intro m g m' g' hm hargs
  refine ⟨fun c => Ref.result (m ((c.tc : Thread Cert.KernelIdeal.nD Cert.KernelIdeal.τ).loc Cert.KernelIdeal.main_arg0)), ?_, ?_⟩
  · exact (θ_run _ _ _).mono (fun r h c => ⟨(h.1 c).1.trans (kernel_value m g hm c), (h.1 c).2⟩) (Re.run m g)
  · exact (θ_run _ _ _).mono (fun r h c => ⟨(h c).1.trans (congrArg Ref.result (hargs c)), (h c).2⟩) (Ref.run m' g')

/-- All the claims: the frames, and the value under the precondition. -/
theorem claim : Cert.Claim :=
  ⟨Cert.Kernel.Gen.facts, Cert.KernelIdeal.Gen.facts, Cert.ReferenceIdeal.Gen.facts, Overlap.facts,
    fun m ρ _ => Hw.frame m ρ, fun m ρ _ => Re.frame m ρ, fun m ρ _ => Re.frame m ρ, fun m ρ _ => reference_frame m ρ,
    fun m ρ _ => reference_frame m ρ, trivial, algebraic⟩

end Cert.Proof

end
